-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩
abbrev S1024x256x128 : Shape := ⟨3, ![1024, 256, 128]⟩
abbrev S1024x8x128 : Shape := ⟨3, ![1024, 8, 128]⟩
abbrev S8x1024x128 : Shape := ⟨3, ![8, 1024, 128]⟩
abbrev S32x32x1024 : Shape := ⟨3, ![32, 32, 1024]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S7x4x32x1024 : Shape := ⟨4, ![7, 4, 32, 1024]⟩
abbrev S6x32x1024 : Shape := ⟨3, ![6, 32, 1024]⟩
abbrev S7 : Shape := ⟨1, ![7]⟩
abbrev S6 : Shape := ⟨1, ![6]⟩
abbrev S1 : Shape := ⟨1, ![1]⟩
abbrev S1x4x32x1024 : Shape := ⟨4, ![1, 4, 32, 1024]⟩
abbrev S4x32x1024 : Shape := ⟨3, ![4, 32, 1024]⟩
abbrev S1x32x1024 : Shape := ⟨3, ![1, 32, 1024]⟩
abbrev S32x1024 : Shape := ⟨2, ![32, 1024]⟩

abbrev nBuf : Space → Nat
  | .hbm => 39
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x256x128, .f32⟩
  | .hbm, ⟨3, _⟩ => ⟨S1x1024x256x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x256x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x8x128, .f32⟩
  | .hbm, ⟨22, _⟩ => ⟨S1024x256x128, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1024x8x128, .f32⟩
  | .hbm, ⟨33, _⟩ => ⟨S8x1024x128, .f32⟩
  | .hbm, ⟨34, _⟩ => ⟨S8x1024x128, .f32⟩
  | .hbm, ⟨35, _⟩ => ⟨S1024x1024, .f32⟩
  | .hbm, ⟨36, _⟩ => ⟨S32x32x1024, .f32⟩
  | .hbm, ⟨37, _⟩ => ⟨S32x32x1024, .f32⟩
  | .hbm, ⟨38, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .f32⟩
  | .local _ .vmem, ⟨3, _⟩ => ⟨S8x1024x128, .f32⟩
  | .local _ .vmem, ⟨4, _⟩ => ⟨S1024x1024, .f32⟩
  | .local _ .vmem, ⟨5, _⟩ => ⟨S32x32x1024, .f32⟩
  | .local _ .vmem, ⟨6, _⟩ => ⟨S32x32x1024, .f32⟩
  | .local _ .vmem, ⟨7, _⟩ => ⟨S32x32x1024, .f32⟩
  | .local _ .vmem, ⟨8, _⟩ => ⟨S7x4x32x1024, .f32⟩
  | .local _ .vmem, ⟨9, _⟩ => ⟨S6x32x1024, .f32⟩
  | .local _ .vmem, ⟨10, _⟩ => ⟨S7x4x32x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev barrier0 : Sem sig := 0

abbrev nD : Nat := 32
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

def k1_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_19 : BitVec 32 := 8#32
  let v43 : BitVec 32 := Scalar.muli v19 c8_i32_19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c8_i32_21 : BitVec 32 := 8#32
  let c0_i32_22 : BitVec 32 := 0#32
  let v45 : BitVec 1 := Scalar.cmpi .eq c8_i32_21 c0_i32_22
  let c1_i32_23 : BitVec 32 := 1#32
  let v46 : BitVec 32 := Scalar.select v45 c1_i32_23 c8_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_48 : BitVec 32 := 1#32
  let v86 : BitVec 32 := Scalar.muli v55 c1_i32_48
  let v87 : BitVec 32 := Scalar.addi c0_i32_49 v86
  v87.toNat
def k1_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c8_i32_13 : BitVec 32 := 8#32
  let c0_i32_14 : BitVec 32 := 0#32
  let v32 : BitVec 1 := Scalar.cmpi .eq c8_i32_13 c0_i32_14
  let c1_i32_15 : BitVec 32 := 1#32
  let v33 : BitVec 32 := Scalar.select v32 c1_i32_15 c8_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_51 : BitVec 32 := 1#32
  let v88 : BitVec 32 := Scalar.muli v42 c1_i32_51
  let v89 : BitVec 32 := Scalar.addi c0_i32_52 v88
  v89.toNat
def k1_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_34 : BitVec 32 := 1#32
  let v69 : BitVec 32 := Scalar.subi v19 c1_i32_34
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c8_i32_41 : BitVec 32 := 8#32
  let v80 : BitVec 32 := Scalar.muli v79 c8_i32_41
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_54 : BitVec 32 := 1#32
  let v90 : BitVec 32 := Scalar.muli v81 c1_i32_54
  let v91 : BitVec 32 := Scalar.addi c0_i32_55 v90
  v91.toNat
def k1_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32 : BitVec 32 := 4#32
  let c0_i32_28 : BitVec 32 := 0#32
  let v57 : BitVec 1 := Scalar.cmpi .eq c4_i32 c0_i32_28
  let c1_i32_29 : BitVec 32 := 1#32
  let v58 : BitVec 32 := Scalar.select v57 c1_i32_29 c4_i32
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c8_i32_33 : BitVec 32 := 8#32
  let v67 : BitVec 32 := Scalar.muli v66 c8_i32_33
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_57 : BitVec 32 := 1#32
  let v92 : BitVec 32 := Scalar.muli v68 c1_i32_57
  let v93 : BitVec 32 := Scalar.addi c0_i32_58 v92
  v93.toNat
@[reducible] def k1_t1_loop : Scf.Loop 32 :=
  let c0_i32_60 : BitVec 32 := 0#32
  let c7_i32 : BitVec 32 := 7#32
  let v94 : BitVec 32 := Scalar.addi c0_i32_60 c7_i32
  let c1_i32_61 : BitVec 32 := 1#32
  ⟨c0_i32_60, v94, c1_i32_61⟩
def k1_off1 (k1_t1 : Fin k1_t1_loop.trips) : Fin 1 → Nat :=
  let c0_i32_60 : BitVec 32 := 0#32
  let c1_i32_61 : BitVec 32 := 1#32
  let arg11 : BitVec 32 := Scf.iv c0_i32_60 c1_i32_61 k1_t1
  ![arg11.toNat]
def k1_off2 (k1_t1 : Fin k1_t1_loop.trips) : Fin 4 → Nat :=
  let c0_i32_60 : BitVec 32 := 0#32
  let c1_i32_61 : BitVec 32 := 1#32
  let arg11 : BitVec 32 := Scf.iv c0_i32_60 c1_i32_61 k1_t1
  let c0_i32_98 : BitVec 32 := 0#32
  let c0_i32_99 : BitVec 32 := 0#32
  let c0_i32_100 : BitVec 32 := 0#32
  ![arg11.toNat, 0, 0, 0]
def k1_off3 (d0 : Dev nD) (k1_t1 : Fin k1_t1_loop.trips) : Fin 3 → Nat :=
  let c4_i32_95 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_60 : BitVec 32 := 0#32
  let c1_i32_61 : BitVec 32 := 1#32
  let arg11 : BitVec 32 := Scf.iv c0_i32_60 c1_i32_61 k1_t1
  let v110 : BitVec 32 := Scalar.subi v29 arg11
  let c8_i32_82 : BitVec 32 := 8#32
  let c0_i32_83 : BitVec 32 := 0#32
  let v111 : BitVec 1 := Scalar.cmpi .eq c8_i32_82 c0_i32_83
  let c1_i32_84 : BitVec 32 := 1#32
  let v112 : BitVec 32 := Scalar.select v111 c1_i32_84 c8_i32_82
  let v113 : BitVec 32 := Scalar.remsi v110 v112
  let c0_i32_86 : BitVec 32 := 0#32
  let v115 : BitVec 1 := Scalar.cmpi .slt v113 c0_i32_86
  let c0_i32_87 : BitVec 32 := 0#32
  let v116 : BitVec 1 := Scalar.cmpi .slt v112 c0_i32_87
  let v117 : BitVec 1 := Scalar.xori v115 v116
  let c0_i32_85 : BitVec 32 := 0#32
  let v114 : BitVec 1 := Scalar.cmpi .ne v113 c0_i32_85
  let v118 : BitVec 1 := Scalar.andi v117 v114
  let v119 : BitVec 32 := Scalar.addi v113 v112
  let v120 : BitVec 32 := Scalar.select v118 v119 v113
  let v133 : BitVec 32 := Scalar.muli c4_i32_95 v120
  let c0_i32_101 : BitVec 32 := 0#32
  let c0_i32_102 : BitVec 32 := 0#32
  ![v133.toNat, 0, 0]
def k1_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c8_i32_13 : BitVec 32 := 8#32
  let c0_i32_14 : BitVec 32 := 0#32
  let v32 : BitVec 1 := Scalar.cmpi .eq c8_i32_13 c0_i32_14
  let c1_i32_15 : BitVec 32 := 1#32
  let v33 : BitVec 32 := Scalar.select v32 c1_i32_15 c8_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_96 : BitVec 32 := 1#32
  let v134 : BitVec 32 := Scalar.muli v42 c1_i32_96
  let v135 : BitVec 32 := Scalar.addi c0_i32_97 v134
  v135.toNat
def k1_off4 (d0 : Dev nD) (k1_t1 : Fin k1_t1_loop.trips) : Fin 3 → Nat :=
  let c4_i32_116 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_60 : BitVec 32 := 0#32
  let c1_i32_61 : BitVec 32 := 1#32
  let arg11 : BitVec 32 := Scf.iv c0_i32_60 c1_i32_61 k1_t1
  let v121 : BitVec 32 := Scalar.subi v29 arg11
  let c1_i32_88 : BitVec 32 := 1#32
  let v122 : BitVec 32 := Scalar.subi v121 c1_i32_88
  let c8_i32_89 : BitVec 32 := 8#32
  let c0_i32_90 : BitVec 32 := 0#32
  let v123 : BitVec 1 := Scalar.cmpi .eq c8_i32_89 c0_i32_90
  let c1_i32_91 : BitVec 32 := 1#32
  let v124 : BitVec 32 := Scalar.select v123 c1_i32_91 c8_i32_89
  let v125 : BitVec 32 := Scalar.remsi v122 v124
  let c0_i32_93 : BitVec 32 := 0#32
  let v127 : BitVec 1 := Scalar.cmpi .slt v125 c0_i32_93
  let c0_i32_94 : BitVec 32 := 0#32
  let v128 : BitVec 1 := Scalar.cmpi .slt v124 c0_i32_94
  let v129 : BitVec 1 := Scalar.xori v127 v128
  let c0_i32_92 : BitVec 32 := 0#32
  let v126 : BitVec 1 := Scalar.cmpi .ne v125 c0_i32_92
  let v130 : BitVec 1 := Scalar.andi v129 v126
  let v131 : BitVec 32 := Scalar.addi v125 v124
  let v132 : BitVec 32 := Scalar.select v130 v131 v125
  let v155 : BitVec 32 := Scalar.muli c4_i32_116 v132
  let v156 : Index := Scalar.indexCast v155
  let c0_117 : Index := 0#32
  let c0_118 : Index := 0#32
  ![v156.toNat, 0, 0]
def k1_off5 (k1_t1 : Fin k1_t1_loop.trips) : Fin 4 → Nat :=
  let c0_i32_60 : BitVec 32 := 0#32
  let c1_i32_61 : BitVec 32 := 1#32
  let arg11 : BitVec 32 := Scf.iv c0_i32_60 c1_i32_61 k1_t1
  let v159 : Index := Scalar.indexCast arg11
  let c0_119 : Index := 0#32
  let c0_120 : Index := 0#32
  let c0_121 : Index := 0#32
  ![v159.toNat, 0, 0, 0]
@[reducible] def k1_t2_loop : Scf.Loop 32 :=
  let c0_i32_71 : BitVec 32 := 0#32
  let c3_i32 : BitVec 32 := 3#32
  let v107 : BitVec 32 := Scalar.addi c0_i32_71 c3_i32
  let c1_i32_72 : BitVec 32 := 1#32
  ⟨c0_i32_71, v107, c1_i32_72⟩
def k1_off6 (k1_t2 : Fin k1_t2_loop.trips) : Fin 1 → Nat :=
  let c0_i32_71 : BitVec 32 := 0#32
  let c1_i32_72 : BitVec 32 := 1#32
  let arg11 : BitVec 32 := Scf.iv c0_i32_71 c1_i32_72 k1_t2
  ![arg11.toNat]
def k1_off7 (k1_t2 : Fin k1_t2_loop.trips) : Fin 3 → Nat :=
  let c0_i32_71 : BitVec 32 := 0#32
  let c1_i32_72 : BitVec 32 := 1#32
  let arg11 : BitVec 32 := Scf.iv c0_i32_71 c1_i32_72 k1_t2
  let c0_i32_97 : BitVec 32 := 0#32
  let c0_i32_98 : BitVec 32 := 0#32
  ![arg11.toNat, 0, 0]
def k1_off8 (d0 : Dev nD) (k1_t2 : Fin k1_t2_loop.trips) : Fin 3 → Nat :=
  let c4_i32_70 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_63 : BitVec 32 := 1#32
  let v95 : BitVec 32 := Scalar.addi v29 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v106 : BitVec 32 := Scalar.muli c4_i32_70 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_71 : BitVec 32 := 0#32
  let c1_i32_72 : BitVec 32 := 1#32
  let arg11 : BitVec 32 := Scf.iv c0_i32_71 c1_i32_72 k1_t2
  let v110 : BitVec 32 := Scalar.subi v19 arg11
  let c4_i32_82 : BitVec 32 := 4#32
  let c0_i32_83 : BitVec 32 := 0#32
  let v111 : BitVec 1 := Scalar.cmpi .eq c4_i32_82 c0_i32_83
  let c1_i32_84 : BitVec 32 := 1#32
  let v112 : BitVec 32 := Scalar.select v111 c1_i32_84 c4_i32_82
  let v113 : BitVec 32 := Scalar.remsi v110 v112
  let c0_i32_86 : BitVec 32 := 0#32
  let v115 : BitVec 1 := Scalar.cmpi .slt v113 c0_i32_86
  let c0_i32_87 : BitVec 32 := 0#32
  let v116 : BitVec 1 := Scalar.cmpi .slt v112 c0_i32_87
  let v117 : BitVec 1 := Scalar.xori v115 v116
  let c0_i32_85 : BitVec 32 := 0#32
  let v114 : BitVec 1 := Scalar.cmpi .ne v113 c0_i32_85
  let v118 : BitVec 1 := Scalar.andi v117 v114
  let v119 : BitVec 32 := Scalar.addi v113 v112
  let v120 : BitVec 32 := Scalar.select v118 v119 v113
  let v121 : BitVec 32 := Scalar.addi v106 v120
  let c0_i32_99 : BitVec 32 := 0#32
  let c0_i32_100 : BitVec 32 := 0#32
  ![v121.toNat, 0, 0]
def k1_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32 : BitVec 32 := 4#32
  let c0_i32_28 : BitVec 32 := 0#32
  let v57 : BitVec 1 := Scalar.cmpi .eq c4_i32 c0_i32_28
  let c1_i32_29 : BitVec 32 := 1#32
  let v58 : BitVec 32 := Scalar.select v57 c1_i32_29 c4_i32
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c8_i32_33 : BitVec 32 := 8#32
  let v67 : BitVec 32 := Scalar.muli v66 c8_i32_33
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_95 : BitVec 32 := 1#32
  let v135 : BitVec 32 := Scalar.muli v68 c1_i32_95
  let v136 : BitVec 32 := Scalar.addi c0_i32_96 v135
  v136.toNat
def k1_off9 (d0 : Dev nD) (k1_t2 : Fin k1_t2_loop.trips) : Fin 3 → Nat :=
  let c4_i32_70 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_63 : BitVec 32 := 1#32
  let v95 : BitVec 32 := Scalar.addi v29 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v106 : BitVec 32 := Scalar.muli c4_i32_70 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_71 : BitVec 32 := 0#32
  let c1_i32_72 : BitVec 32 := 1#32
  let arg11 : BitVec 32 := Scf.iv c0_i32_71 c1_i32_72 k1_t2
  let v122 : BitVec 32 := Scalar.subi v19 arg11
  let c1_i32_88 : BitVec 32 := 1#32
  let v123 : BitVec 32 := Scalar.subi v122 c1_i32_88
  let c4_i32_89 : BitVec 32 := 4#32
  let c0_i32_90 : BitVec 32 := 0#32
  let v124 : BitVec 1 := Scalar.cmpi .eq c4_i32_89 c0_i32_90
  let c1_i32_91 : BitVec 32 := 1#32
  let v125 : BitVec 32 := Scalar.select v124 c1_i32_91 c4_i32_89
  let v126 : BitVec 32 := Scalar.remsi v123 v125
  let c0_i32_93 : BitVec 32 := 0#32
  let v128 : BitVec 1 := Scalar.cmpi .slt v126 c0_i32_93
  let c0_i32_94 : BitVec 32 := 0#32
  let v129 : BitVec 1 := Scalar.cmpi .slt v125 c0_i32_94
  let v130 : BitVec 1 := Scalar.xori v128 v129
  let c0_i32_92 : BitVec 32 := 0#32
  let v127 : BitVec 1 := Scalar.cmpi .ne v126 c0_i32_92
  let v131 : BitVec 1 := Scalar.andi v130 v127
  let v132 : BitVec 32 := Scalar.addi v126 v125
  let v133 : BitVec 32 := Scalar.select v131 v132 v126
  let v134 : BitVec 32 := Scalar.addi v106 v133
  let v159 : Index := Scalar.indexCast v134
  let c0_112 : Index := 0#32
  let c0_113 : Index := 0#32
  ![v159.toNat, 0, 0]
def k1_off10 (k1_t2 : Fin k1_t2_loop.trips) : Fin 3 → Nat :=
  let c0_i32_71 : BitVec 32 := 0#32
  let c1_i32_72 : BitVec 32 := 1#32
  let arg11 : BitVec 32 := Scf.iv c0_i32_71 c1_i32_72 k1_t2
  let v162 : Index := Scalar.indexCast arg11
  let c0_114 : Index := 0#32
  let c0_115 : Index := 0#32
  ![v162.toNat, 0, 0]
@[reducible] def k1_t3_loop : Scf.Loop 32 :=
  let c0_i32_74 : BitVec 32 := 0#32
  let c3_i32_75 : BitVec 32 := 3#32
  let v108 : BitVec 32 := Scalar.addi c0_i32_74 c3_i32_75
  let c1_i32_76 : BitVec 32 := 1#32
  ⟨c0_i32_74, v108, c1_i32_76⟩
def k1_off11 (k1_t3 : Fin k1_t3_loop.trips) : Fin 1 → Nat :=
  let c3_i32_82 : BitVec 32 := 3#32
  let c0_i32_74 : BitVec 32 := 0#32
  let c1_i32_76 : BitVec 32 := 1#32
  let arg11 : BitVec 32 := Scf.iv c0_i32_74 c1_i32_76 k1_t3
  let v110 : BitVec 32 := Scalar.addi c3_i32_82 arg11
  ![v110.toNat]
def k1_off12 (k1_t3 : Fin k1_t3_loop.trips) : Fin 3 → Nat :=
  let c3_i32_82 : BitVec 32 := 3#32
  let c0_i32_74 : BitVec 32 := 0#32
  let c1_i32_76 : BitVec 32 := 1#32
  let arg11 : BitVec 32 := Scf.iv c0_i32_74 c1_i32_76 k1_t3
  let v110 : BitVec 32 := Scalar.addi c3_i32_82 arg11
  let c0_i32_98 : BitVec 32 := 0#32
  let c0_i32_99 : BitVec 32 := 0#32
  ![v110.toNat, 0, 0]
def k1_off13 (d0 : Dev nD) (k1_t3 : Fin k1_t3_loop.trips) : Fin 3 → Nat :=
  let c4_i32_70 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_63 : BitVec 32 := 1#32
  let v95 : BitVec 32 := Scalar.addi v29 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v106 : BitVec 32 := Scalar.muli c4_i32_70 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_83 : BitVec 32 := 1#32
  let v111 : BitVec 32 := Scalar.addi v19 c1_i32_83
  let c0_i32_74 : BitVec 32 := 0#32
  let c1_i32_76 : BitVec 32 := 1#32
  let arg11 : BitVec 32 := Scf.iv c0_i32_74 c1_i32_76 k1_t3
  let v112 : BitVec 32 := Scalar.subi v111 arg11
  let c4_i32_84 : BitVec 32 := 4#32
  let c0_i32_85 : BitVec 32 := 0#32
  let v113 : BitVec 1 := Scalar.cmpi .eq c4_i32_84 c0_i32_85
  let c1_i32_86 : BitVec 32 := 1#32
  let v114 : BitVec 32 := Scalar.select v113 c1_i32_86 c4_i32_84
  let v115 : BitVec 32 := Scalar.remsi v112 v114
  let c0_i32_88 : BitVec 32 := 0#32
  let v117 : BitVec 1 := Scalar.cmpi .slt v115 c0_i32_88
  let c0_i32_89 : BitVec 32 := 0#32
  let v118 : BitVec 1 := Scalar.cmpi .slt v114 c0_i32_89
  let v119 : BitVec 1 := Scalar.xori v117 v118
  let c0_i32_87 : BitVec 32 := 0#32
  let v116 : BitVec 1 := Scalar.cmpi .ne v115 c0_i32_87
  let v120 : BitVec 1 := Scalar.andi v119 v116
  let v121 : BitVec 32 := Scalar.addi v115 v114
  let v122 : BitVec 32 := Scalar.select v120 v121 v115
  let v123 : BitVec 32 := Scalar.addi v106 v122
  let c0_i32_100 : BitVec 32 := 0#32
  let c0_i32_101 : BitVec 32 := 0#32
  ![v123.toNat, 0, 0]
def k1_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32 : BitVec 32 := 4#32
  let c0_i32_28 : BitVec 32 := 0#32
  let v57 : BitVec 1 := Scalar.cmpi .eq c4_i32 c0_i32_28
  let c1_i32_29 : BitVec 32 := 1#32
  let v58 : BitVec 32 := Scalar.select v57 c1_i32_29 c4_i32
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c8_i32_33 : BitVec 32 := 8#32
  let v67 : BitVec 32 := Scalar.muli v66 c8_i32_33
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_96 : BitVec 32 := 1#32
  let v136 : BitVec 32 := Scalar.muli v68 c1_i32_96
  let v137 : BitVec 32 := Scalar.addi c0_i32_97 v136
  v137.toNat
def k1_off14 (k1_t3 : Fin k1_t3_loop.trips) : Fin 3 → Nat :=
  let c3_i32_82 : BitVec 32 := 3#32
  let c0_i32_74 : BitVec 32 := 0#32
  let c1_i32_76 : BitVec 32 := 1#32
  let arg11 : BitVec 32 := Scf.iv c0_i32_74 c1_i32_76 k1_t3
  let v110 : BitVec 32 := Scalar.addi c3_i32_82 arg11
  let v160 : Index := Scalar.indexCast v110
  let c0_113 : Index := 0#32
  let c0_114 : Index := 0#32
  ![v160.toNat, 0, 0]
def k1_off15 (d0 : Dev nD) (k1_t3 : Fin k1_t3_loop.trips) : Fin 3 → Nat :=
  let c4_i32_70 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_63 : BitVec 32 := 1#32
  let v95 : BitVec 32 := Scalar.addi v29 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v106 : BitVec 32 := Scalar.muli c4_i32_70 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_74 : BitVec 32 := 0#32
  let c1_i32_76 : BitVec 32 := 1#32
  let arg11 : BitVec 32 := Scf.iv c0_i32_74 c1_i32_76 k1_t3
  let v124 : BitVec 32 := Scalar.subi v19 arg11
  let c4_i32_90 : BitVec 32 := 4#32
  let c0_i32_91 : BitVec 32 := 0#32
  let v125 : BitVec 1 := Scalar.cmpi .eq c4_i32_90 c0_i32_91
  let c1_i32_92 : BitVec 32 := 1#32
  let v126 : BitVec 32 := Scalar.select v125 c1_i32_92 c4_i32_90
  let v127 : BitVec 32 := Scalar.remsi v124 v126
  let c0_i32_94 : BitVec 32 := 0#32
  let v129 : BitVec 1 := Scalar.cmpi .slt v127 c0_i32_94
  let c0_i32_95 : BitVec 32 := 0#32
  let v130 : BitVec 1 := Scalar.cmpi .slt v126 c0_i32_95
  let v131 : BitVec 1 := Scalar.xori v129 v130
  let c0_i32_93 : BitVec 32 := 0#32
  let v128 : BitVec 1 := Scalar.cmpi .ne v127 c0_i32_93
  let v132 : BitVec 1 := Scalar.andi v131 v128
  let v133 : BitVec 32 := Scalar.addi v127 v126
  let v134 : BitVec 32 := Scalar.select v132 v133 v127
  let v135 : BitVec 32 := Scalar.addi v106 v134
  let v163 : Index := Scalar.indexCast v135
  let c0_115 : Index := 0#32
  let c0_116 : Index := 0#32
  ![v163.toNat, 0, 0]
@[reducible] def k1_t4_loop : Scf.Loop 32 :=
  let c0_i32_78 : BitVec 32 := 0#32
  let c7_i32_79 : BitVec 32 := 7#32
  let v109 : BitVec 32 := Scalar.addi c0_i32_78 c7_i32_79
  let c1_i32_80 : BitVec 32 := 1#32
  ⟨c0_i32_78, v109, c1_i32_80⟩
def k1_off16 (k1_t4 : Fin k1_t4_loop.trips) : Fin 1 → Nat :=
  let c0_i32_78 : BitVec 32 := 0#32
  let c1_i32_80 : BitVec 32 := 1#32
  let arg11 : BitVec 32 := Scf.iv c0_i32_78 c1_i32_80 k1_t4
  ![arg11.toNat]
def k1_off17 (k1_t4 : Fin k1_t4_loop.trips) : Fin 4 → Nat :=
  let c0_i32_78 : BitVec 32 := 0#32
  let c1_i32_80 : BitVec 32 := 1#32
  let arg11 : BitVec 32 := Scf.iv c0_i32_78 c1_i32_80 k1_t4
  let c0_i32_98 : BitVec 32 := 0#32
  let c0_i32_99 : BitVec 32 := 0#32
  let c0_i32_100 : BitVec 32 := 0#32
  ![arg11.toNat, 0, 0, 0]
def k1_off18 (d0 : Dev nD) (k1_t4 : Fin k1_t4_loop.trips) : Fin 3 → Nat :=
  let c4_i32_95 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_82 : BitVec 32 := 1#32
  let v110 : BitVec 32 := Scalar.addi v29 c1_i32_82
  let c0_i32_78 : BitVec 32 := 0#32
  let c1_i32_80 : BitVec 32 := 1#32
  let arg11 : BitVec 32 := Scf.iv c0_i32_78 c1_i32_80 k1_t4
  let v111 : BitVec 32 := Scalar.subi v110 arg11
  let c8_i32_83 : BitVec 32 := 8#32
  let c0_i32_84 : BitVec 32 := 0#32
  let v112 : BitVec 1 := Scalar.cmpi .eq c8_i32_83 c0_i32_84
  let c1_i32_85 : BitVec 32 := 1#32
  let v113 : BitVec 32 := Scalar.select v112 c1_i32_85 c8_i32_83
  let v114 : BitVec 32 := Scalar.remsi v111 v113
  let c0_i32_87 : BitVec 32 := 0#32
  let v116 : BitVec 1 := Scalar.cmpi .slt v114 c0_i32_87
  let c0_i32_88 : BitVec 32 := 0#32
  let v117 : BitVec 1 := Scalar.cmpi .slt v113 c0_i32_88
  let v118 : BitVec 1 := Scalar.xori v116 v117
  let c0_i32_86 : BitVec 32 := 0#32
  let v115 : BitVec 1 := Scalar.cmpi .ne v114 c0_i32_86
  let v119 : BitVec 1 := Scalar.andi v118 v115
  let v120 : BitVec 32 := Scalar.addi v114 v113
  let v121 : BitVec 32 := Scalar.select v119 v120 v114
  let v133 : BitVec 32 := Scalar.muli c4_i32_95 v121
  let c0_i32_101 : BitVec 32 := 0#32
  let c0_i32_102 : BitVec 32 := 0#32
  ![v133.toNat, 0, 0]
def k1_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c8_i32_13 : BitVec 32 := 8#32
  let c0_i32_14 : BitVec 32 := 0#32
  let v32 : BitVec 1 := Scalar.cmpi .eq c8_i32_13 c0_i32_14
  let c1_i32_15 : BitVec 32 := 1#32
  let v33 : BitVec 32 := Scalar.select v32 c1_i32_15 c8_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_96 : BitVec 32 := 1#32
  let v134 : BitVec 32 := Scalar.muli v42 c1_i32_96
  let v135 : BitVec 32 := Scalar.addi c0_i32_97 v134
  v135.toNat
def k1_off19 (k1_t4 : Fin k1_t4_loop.trips) : Fin 4 → Nat :=
  let c0_i32_78 : BitVec 32 := 0#32
  let c1_i32_80 : BitVec 32 := 1#32
  let arg11 : BitVec 32 := Scf.iv c0_i32_78 c1_i32_80 k1_t4
  let v155 : Index := Scalar.indexCast arg11
  let c0_116 : Index := 0#32
  let c0_117 : Index := 0#32
  let c0_118 : Index := 0#32
  ![v155.toNat, 0, 0, 0]
def k1_off20 (d0 : Dev nD) (k1_t4 : Fin k1_t4_loop.trips) : Fin 3 → Nat :=
  let c4_i32_119 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_78 : BitVec 32 := 0#32
  let c1_i32_80 : BitVec 32 := 1#32
  let arg11 : BitVec 32 := Scf.iv c0_i32_78 c1_i32_80 k1_t4
  let v122 : BitVec 32 := Scalar.subi v29 arg11
  let c8_i32_89 : BitVec 32 := 8#32
  let c0_i32_90 : BitVec 32 := 0#32
  let v123 : BitVec 1 := Scalar.cmpi .eq c8_i32_89 c0_i32_90
  let c1_i32_91 : BitVec 32 := 1#32
  let v124 : BitVec 32 := Scalar.select v123 c1_i32_91 c8_i32_89
  let v125 : BitVec 32 := Scalar.remsi v122 v124
  let c0_i32_93 : BitVec 32 := 0#32
  let v127 : BitVec 1 := Scalar.cmpi .slt v125 c0_i32_93
  let c0_i32_94 : BitVec 32 := 0#32
  let v128 : BitVec 1 := Scalar.cmpi .slt v124 c0_i32_94
  let v129 : BitVec 1 := Scalar.xori v127 v128
  let c0_i32_92 : BitVec 32 := 0#32
  let v126 : BitVec 1 := Scalar.cmpi .ne v125 c0_i32_92
  let v130 : BitVec 1 := Scalar.andi v129 v126
  let v131 : BitVec 32 := Scalar.addi v125 v124
  let v132 : BitVec 32 := Scalar.select v130 v131 v125
  let v158 : BitVec 32 := Scalar.muli c4_i32_119 v132
  let v159 : Index := Scalar.indexCast v158
  let c0_120 : Index := 0#32
  let c0_121 : Index := 0#32
  ![v159.toNat, 0, 0]
abbrev stage1_0 : Fin 1 → Memref sig .tc .vmem S32x32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x32768, .f32⟩
  | 2 => ⟨S1x1024x256x128, .f32⟩
  | 3 => ⟨S1x1024x256x128, .f32⟩
  | 4 => ⟨S32768x1024, .f32⟩
  | 5 => ⟨S1x1024x32768, .f32⟩
  | 6 => ⟨S1x1024x256x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S1x256x1024x1024, .f32⟩
  | 99 => ⟨S_, .f32⟩
  | 100 => ⟨S1x256x1024x1024, .f32⟩
  | 101 => ⟨S1x256x1024x1024, .f32⟩
  | 102 => ⟨S1x1x1024x1024, .i1⟩
  | 103 => ⟨S_, .f32⟩
  | 104 => ⟨S_, .f32⟩
  | 105 => ⟨S1x256x1024x1024, .i1⟩
  | 106 => ⟨S1x256x1024x1024, .f32⟩
  | 107 => ⟨S1x256x1024x1024, .f32⟩
  | 108 => ⟨S_, .f32⟩
  | 109 => ⟨S1x256x1024, .f32⟩
  | 110 => ⟨S1x256x1024x1, .f32⟩
  | 111 => ⟨S1x256x1024x1024, .f32⟩
  | 112 => ⟨S1x256x1024x1024, .f32⟩
  | 113 => ⟨S1x256x1024x1024, .f32⟩
  | 114 => ⟨S_, .i1⟩
  | 115 => ⟨S1024, .i1⟩
  | 116 => ⟨S1x1x1024x1, .i1⟩
  | 117 => ⟨S_, .f32⟩
  | 118 => ⟨S1x256x1024, .f32⟩
  | 119 => ⟨S1x256x1024x1, .f32⟩
  | 120 => ⟨S_, .f32⟩
  | 121 => ⟨S_, .f32⟩
  | 122 => ⟨S1x256x1024x1, .i1⟩
  | 123 => ⟨S1x256x1024x1, .f32⟩
  | 124 => ⟨S1x256x1024x1, .f32⟩
  | 125 => ⟨S1x256x1024x1024, .f32⟩
  | 126 => ⟨S1x256x1024x1024, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x256x1024x1024, .i1⟩
  | 3 => ⟨S1x256x1024x1024, .f32⟩
  | 4 => ⟨S1x256x1024x1024, .f32⟩
  | 5 => ⟨S1x256x128x1024, .f32⟩
  | 6 => ⟨S1x1024x256x128, .f32⟩
  | 7 => ⟨S1x1024x32768, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Ring.lean ====
/-
  The two-level ring of the all-reduce, as arithmetic on device numbers, and the contents its steps produce.

  Device `c = 8 * g + q` is member `q` of group `g` (four groups of eight). The kernel runs twenty steps, numbered here
  `0 … 19`: steps 0–6 reduce-scatter inside the group, 7–9 reduce-scatter across the groups, 10–12 all-gather across the
  groups, 13–19 all-gather inside the group. In step `n` every device sends some rows of its accumulator to `tgt n c` and
  receives the SAME rows of the accumulator of `src n c`; it adds them to its own rows (steps below 10) or replaces its own
  rows by them (from step 10 on). `rcvRow n c r` says that row `r` is among the rows device `c` receives in step `n`.
-/
module

public import proofs.«01_k».proof.Proof.Gen.KernelIdeal
public import proofs.«01_k».proof.Proof.Gen.KernelIdeal.Skeleton
public import proofs.«01_k».proof.Proof.Gen.KernelIdeal.Regions
public import proofs.«01_k».proof.Proof.Gen.KernelIdeal.Launch
public import Idealize.ShloMosaic.Lib.ViewIndex
public import Idealize.ShloMosaic.Lib.ValueLayout

@[expose] public section

set_option maxRecDepth 16384

namespace Cert.AllReduce

open Cert.KernelIdeal Cert.KernelIdeal.Gen
open Idealize.ShloMosaic Idealize.ShloMosaic.TcCoe

/-! ## The neighbours -/

set_option backward.proofsInPublic true in
/-- The next member of the own group. -/
def ir (c : Dev nD) : Dev nD := ⟨8 * (c.val / 8) + (c.val % 8 + 1) % 8, by have := c.isLt; simp only [nD] at *; omega⟩
set_option backward.proofsInPublic true in
/-- The previous member of the own group. -/
def il (c : Dev nD) : Dev nD := ⟨8 * (c.val / 8) + (c.val % 8 + 7) % 8, by have := c.isLt; simp only [nD] at *; omega⟩
set_option backward.proofsInPublic true in
/-- The same member of the next group. -/
def xr (c : Dev nD) : Dev nD := ⟨(c.val + 8) % 32, by simp only [nD]; omega⟩
set_option backward.proofsInPublic true in
/-- The same member of the previous group. -/
def xl (c : Dev nD) : Dev nD := ⟨(c.val + 24) % 32, by simp only [nD]; omega⟩

theorem il_ir : ∀ c : Dev nD, il (ir c) = c := by decide +kernel
theorem ir_il : ∀ c : Dev nD, ir (il c) = c := by decide +kernel
theorem xl_xr : ∀ c : Dev nD, xl (xr c) = c := by decide +kernel
theorem xr_xl : ∀ c : Dev nD, xr (xl c) = c := by decide +kernel

/-- The kernel's device numbers are the neighbours. -/
theorem dev1_eq : ∀ c : Dev nD, (⟨k1_dev1 c, k1_dev1_lt c⟩ : Dev nD) = il c := by decide +kernel
theorem dev2_eq : ∀ c : Dev nD, (⟨k1_dev2 c, k1_dev2_lt c⟩ : Dev nD) = ir c := by decide +kernel
theorem dev3_eq : ∀ c : Dev nD, (⟨k1_dev3 c, k1_dev3_lt c⟩ : Dev nD) = xl c := by decide +kernel
theorem dev4_eq : ∀ c : Dev nD, (⟨k1_dev4 c, k1_dev4_lt c⟩ : Dev nD) = xr c := by decide +kernel
theorem dev5_eq : ∀ c : Dev nD, (⟨k1_dev5 c, k1_dev5_lt c⟩ : Dev nD) = ir c := by decide +kernel
theorem dev6_eq : ∀ c : Dev nD, (⟨k1_dev6 c, k1_dev6_lt c⟩ : Dev nD) = xr c := by decide +kernel
theorem dev7_eq : ∀ c : Dev nD, (⟨k1_dev7 c, k1_dev7_lt c⟩ : Dev nD) = xr c := by decide +kernel
theorem dev8_eq : ∀ c : Dev nD, (⟨k1_dev8 c, k1_dev8_lt c⟩ : Dev nD) = ir c := by decide +kernel

/-! ## The steps -/

/-- Step `n` stays inside the group. -/
abbrev Intra (n : ℕ) : Prop := n < 7 ∨ 13 ≤ n

/-- Where device `c` sends in step `n`, -/
def tgt (n : ℕ) (c : Dev nD) : Dev nD := if Intra n then ir c else xr c
/-- and from where it receives. -/
def src (n : ℕ) (c : Dev nD) : Dev nD := if Intra n then il c else xl c

theorem src_tgt (n : ℕ) (c : Dev nD) : src n (tgt n c) = c := by
  unfold src tgt; split
  · exact il_ir c
  · exact xl_xr c
theorem tgt_src (n : ℕ) (c : Dev nD) : tgt n (src n c) = c := by
  unfold src tgt; split
  · exact ir_il c
  · exact xr_xl c

/-- The first row of the rows device `c` receives in step `n`. -/
def rcvOff (n : ℕ) (c : Dev nD) : ℕ :=
  if n < 7 then 4 * ((c.val % 8 + 7 - n) % 8)
  else if n < 10 then 4 * ((c.val % 8 + 1) % 8) + (c.val / 8 + 10 - n) % 4
  else if n < 13 then 4 * ((c.val % 8 + 1) % 8) + (c.val / 8 + 14 - n) % 4
  else 4 * ((c.val % 8 + 21 - n) % 8)

/-- How many rows one message of step `n` has. -/
def rcvLen (n : ℕ) : ℕ := if Intra n then 4 else 1

/-- Row `r` is among the rows device `c` receives in step `n`. -/
abbrev rcvRow (n : ℕ) (c : Dev nD) (r : ℕ) : Prop := rcvOff n c ≤ r ∧ r < rcvOff n c + rcvLen n

theorem rcvOff_add_le (n : ℕ) (c : Dev nD) : rcvOff n c + rcvLen n ≤ 32 := by
  unfold rcvOff rcvLen Intra
  split <;> [skip; split <;> [skip; split]] <;> split <;> omega

/-- What device `c`'s accumulator holds before step `n`, from what every device's accumulator holds at the start, for an
    addition `add`: the rows received are added to the own ones below step 10, and replace them from step 10 on. -/
def St {α : Type} (add : α → α → α) (part : Dev nD → S32x32x1024.Idx → α) : ℕ → Dev nD → S32x32x1024.Idx → α
  | 0, c, i => part c i
  | n + 1, c, i =>
    if rcvRow n c (i 0).val then
      (if n < 10 then add (St add part n c i) (St add part n (src n c) i) else St add part n (src n c) i)
    else St add part n c i

/-! ## The kernel's offsets in closed form -/

theorem trips1 : k1_t1_loop.trips = 7 := by decide +kernel
theorem trips2 : k1_t2_loop.trips = 3 := by decide +kernel
theorem trips3 : k1_t3_loop.trips = 3 := by decide +kernel
theorem trips4 : k1_t4_loop.trips = 7 := by decide +kernel

theorem off3_eq : ∀ (c : Dev nD) (k : Fin k1_t1_loop.trips), k1_off3 c k = ![rcvOff k.val (ir c), 0, 0] := by decide +kernel
theorem off4_eq : ∀ (c : Dev nD) (k : Fin k1_t1_loop.trips), k1_off4 c k = ![rcvOff k.val c, 0, 0] := by decide +kernel
theorem off8_eq : ∀ (c : Dev nD) (k : Fin k1_t2_loop.trips), k1_off8 c k = ![rcvOff (7 + k.val) (xr c), 0, 0] := by decide +kernel
theorem off9_eq : ∀ (c : Dev nD) (k : Fin k1_t2_loop.trips), k1_off9 c k = ![rcvOff (7 + k.val) c, 0, 0] := by decide +kernel
theorem off13_eq : ∀ (c : Dev nD) (k : Fin k1_t3_loop.trips), k1_off13 c k = ![rcvOff (10 + k.val) (xr c), 0, 0] := by decide +kernel
theorem off15_eq : ∀ (c : Dev nD) (k : Fin k1_t3_loop.trips), k1_off15 c k = ![rcvOff (10 + k.val) c, 0, 0] := by decide +kernel
theorem off18_eq : ∀ (c : Dev nD) (k : Fin k1_t4_loop.trips), k1_off18 c k = ![rcvOff (13 + k.val) (ir c), 0, 0] := by decide +kernel
theorem off20_eq : ∀ (c : Dev nD) (k : Fin k1_t4_loop.trips), k1_off20 c k = ![rcvOff (13 + k.val) c, 0, 0] := by decide +kernel

end Cert.AllReduce
-- ==== Proof.Sched.lean ====
/-
  The protocol of the all-reduce kernel as a schedule of rounds: which cells there are, who pays them, how much, and what is
  handed over.

  * barrier cell of `c`: four duties of one unit, paid by the four neighbours. The group neighbour whose group-ring messages
    `c` will send pays with its landing slots of those steps; the neighbour across the groups pays with its landing slots of
    the steps across the groups; the other two pay with nothing.
  * send cell `n` of `c` (step `n`): paid by `c`'s own message, with the rows sent, unchanged.
  * receive cell `n` of `c`: paid by the message of `src n c`, with `c`'s landing slot of step `n` holding the rows sent.

  Every cell has one round.
-/
module

public import proofs.«01_k».proof.Proof.Ring
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4 eq_ix1 eq_ix2 eq_ix3 eq_ix4)
open Idealize.ShloMosaic.Pipeline (Dat Cfg BodyObligation cellOf)

variable {F : FTy → Type}

/-! ## The resource algebra: the pipeline library's copy and the ring's -/

abbrev URd : Type := Rounds.URounds (GSem nD τ sig) (Fin 4)
abbrev UU : Type := UR sig nD τ × URd

local notation "𝕄" => MT nD τ sig Unit (Elt F) ℕ UU ℕ

abbrev EP : Emb (UR sig nD τ) (MT nD τ sig Unit (Elt F) ℕ UU ℕ) := embL
abbrev ER : Emb URd (MT nD τ sig Unit (Elt F) ℕ UU ℕ) := embR

/-! ## Buffers -/

abbrev inM : Memref sig .tc .vmem S32x32x1024 .f32 := Memref.whole cc1_stg0_0
abbrev outM : Memref sig .tc .vmem S32x32x1024 .f32 := Memref.whole cc1_stg1_0
abbrev aM : Memref sig .tc .vmem S7x4x32x1024 .f32 := Memref.whole cc1_scratch0
abbrev bM : Memref sig .tc .vmem S6x32x1024 .f32 := Memref.whole cc1_scratch1
abbrev cM : Memref sig .tc .vmem S7x4x32x1024 .f32 := Memref.whole cc1_scratch2

abbrev AllBuf (F : FTy → Type) : Type := S32x32x1024.Idx → F .f32

/-- The rows of the accumulator that device `c` receives in step `n`. -/
def outSet (n : ℕ) (c : Dev nD) : Finset S32x32x1024.Idx := Finset.univ.filter fun i => rcvRow n c (i 0).val
/-- Landing slot `k` of a buffer of seven, -/
def slot7 (k : ℕ) : Finset S7x4x32x1024.Idx := Finset.univ.filter fun i => (i 0).val = k
/-- and of the buffer of six. -/
def slot6 (k : ℕ) : Finset S6x32x1024.Idx := Finset.univ.filter fun i => (i 0).val = k

/-- Device `c`'s accumulator, on the elements `I`. -/
abbrev outOn (c : Dev nD) (I : Finset S32x32x1024.Idx) (f : AllBuf F) : sProp 𝕄 :=
  ((c : Thread nD τ).loc cc1_stg1_0) ↦[I]{fullShare} f
/-- Device `c`'s three landing buffers, on the elements `I`. -/
abbrev aOn (c : Dev nD) (I : Finset S7x4x32x1024.Idx) (f : S7x4x32x1024.Idx → F .f32) : sProp 𝕄 :=
  ((c : Thread nD τ).loc cc1_scratch0) ↦[I]{fullShare} f
abbrev bOn (c : Dev nD) (I : Finset S6x32x1024.Idx) (f : S6x32x1024.Idx → F .f32) : sProp 𝕄 :=
  ((c : Thread nD τ).loc cc1_scratch1) ↦[I]{fullShare} f
abbrev cOn (c : Dev nD) (I : Finset S7x4x32x1024.Idx) (f : S7x4x32x1024.Idx → F .f32) : sProp 𝕄 :=
  ((c : Thread nD τ).loc cc1_scratch2) ↦[I]{fullShare} f

/-! ## The semaphores of the steps -/

set_option backward.proofsInPublic true in
/-- The semaphore of step `n`'s send, -/
def sndS (n : Fin 20) : DmaSem sig :=
  ⟨if n.val < 7 then 8 + n.val else if n.val < 13 then 15 + n.val else 21 + n.val, by revert n; decide⟩
set_option backward.proofsInPublic true in
/-- and of its receipt. -/
def rcvS (n : Fin 20) : DmaSem sig :=
  ⟨if n.val < 7 then 15 + n.val else if n.val < 13 then 21 + n.val else 28 + n.val, by revert n; decide⟩
abbrev barS : Sem sig := (SemArray.scalar (sig.barrier 0 rfl) : Sems sig S_).sem

set_option backward.proofsInPublic true in
/-- Which step's send (`false`) or receipt (`true`) a semaphore belongs to. -/
def kindOf (s : DmaSem sig) : Option (Bool × Fin 20) :=
  if s.val < 8 then none
  else if h : s.val < 15 then some (false, ⟨s.val - 8, by omega⟩)
  else if h : s.val < 22 then some (true, ⟨s.val - 15, by omega⟩)
  else if h : s.val < 28 then some (false, ⟨s.val - 15, by omega⟩)
  else if h : s.val < 34 then some (true, ⟨s.val - 21, by omega⟩)
  else if h : s.val < 41 then some (false, ⟨s.val - 21, by omega⟩)
  else if h : s.val < 48 then some (true, ⟨s.val - 28, by omega⟩)
  else none

theorem kindOf_snd : ∀ n : Fin 20, kindOf (sndS n) = some (false, n) := by decide
theorem kindOf_rcv : ∀ n : Fin 20, kindOf (rcvS n) = some (true, n) := by decide

abbrev barCell (c : Dev nD) : GSem nD τ sig := ((c : Thread nD τ), .reg barS)
abbrev sndCell (c : Dev nD) (n : Fin 20) : GSem nD τ sig := ((c : Thread nD τ), .dma (sndS n))
abbrev rcvCell (c : Dev nD) (n : Fin 20) : GSem nD τ sig := ((c : Thread nD τ), .dma (rcvS n))

/-- What a message of four rows credits, and one of one row. -/
abbrev NA : ℕ := ((aM.slice (Rect.unit (s := S7x4x32x1024) ![0, 0, 0, 0] S1x4x32x1024.size (by decide)) (fun _ => rfl)).squeeze S4x32x1024
  squeezes_S1x4x32x1024_S4x32x1024).view.dmaCredit
abbrev NB : ℕ := ((bM.slice (Rect.unit (s := S6x32x1024) ![0, 0, 0] S1x32x1024.size (by decide)) (fun _ => rfl)).squeeze S32x1024
  squeezes_S1x32x1024_S32x1024).view.dmaCredit
theorem NA_pos : 0 < NA := View.dmaCredit_pos _ (by decide)
theorem NB_pos : 0 < NB := View.dmaCredit_pos _ (by decide)
def amt (n : ℕ) : ℕ := if Intra n then NA else NB
theorem amt_pos (n : ℕ) : 0 < amt n := by unfold amt; split; exacts [NA_pos, NB_pos]

/-! ## Contents -/

section Contents

variable [FloatOps F] (part : Dev nD → AllBuf F)

/-- What the accumulators hold before step `n`. -/
abbrev acc (n : ℕ) (c : Dev nD) : AllBuf F := St (FloatOps.addf (F := F) (φ := .f32)) part n c

set_option backward.proofsInPublic true in
/-- What device `c`'s landing buffers hold once everything has landed: slot by slot, the rows the sender's accumulator holds. -/
def CA (c : Dev nD) : S7x4x32x1024.Idx → F .f32 := fun i =>
  acc part (i 0).val (il c) (ix3 (⟨rcvOff (i 0).val c + (i 1).val, by
    have h := rcvOff_add_le (i 0).val c; have h0 : (i 0).val < 7 := (i 0).isLt; have h1 : (i 1).val < 4 := (i 1).isLt
    have hl : rcvLen (i 0).val = 4 := if_pos (Or.inl h0)
    omega⟩ : Fin 32) (i 2) (i 3))
set_option backward.proofsInPublic true in
def CB (c : Dev nD) : S6x32x1024.Idx → F .f32 := fun i =>
  acc part (7 + (i 0).val) (xl c) (ix3 (⟨rcvOff (7 + (i 0).val) c, by
    have h := rcvOff_add_le (7 + (i 0).val) c; have h0 : (i 0).val < 6 := (i 0).isLt
    have hl : rcvLen (7 + (i 0).val) = 1 := if_neg (by unfold Intra; omega)
    omega⟩ : Fin 32) (i 1) (i 2))
set_option backward.proofsInPublic true in
def CC (c : Dev nD) : S7x4x32x1024.Idx → F .f32 := fun i =>
  acc part (13 + (i 0).val) (il c) (ix3 (⟨rcvOff (13 + (i 0).val) c + (i 1).val, by
    have h := rcvOff_add_le (13 + (i 0).val) c; have h1 : (i 1).val < 4 := (i 1).isLt
    have hl : rcvLen (13 + (i 0).val) = 4 := if_pos (Or.inr (by omega))
    omega⟩ : Fin 32) (i 2) (i 3))

end Contents

/-- Device `c`'s landing slot of step `n`, at contents not chosen, -/
def slotAny (c : Dev nD) (n : ℕ) : sProp 𝕄 :=
  if n < 7 then iprop(∃ f, aOn c (slot7 n) f) else if n < 13 then iprop(∃ f, bOn c (slot6 (n - 7)) f)
  else iprop(∃ f, cOn c (slot7 (n - 13)) f)

variable [FloatOps F] (part : Dev nD → AllBuf F)

/-- and once its message has landed. -/
def slotAt (c : Dev nD) (n : ℕ) : sProp 𝕄 :=
  if n < 7 then aOn c (slot7 n) (CA part c) else if n < 13 then bOn c (slot6 (n - 7)) (CB part c)
  else cOn c (slot7 (n - 13)) (CC part c)

theorem slotAt_any (c : Dev nD) (n : ℕ) : slotAt part c n ⊢ (slotAny c n : sProp 𝕄) := by
  unfold slotAt slotAny
  split
  · iintro H; iexists (CA part c); iexact H
  split
  · iintro H; iexists (CB part c); iexact H
  · iintro H; iexists (CC part c); iexact H

/-! ## The schedule -/

/-- What the barrier duties of device `c` hand over. -/
def barPay (c : Dev nD) (d : Fin 4) : sProp 𝕄 :=
  if d = 0 then bigSep (Finset.univ.filter fun n : Fin 20 => Intra n.val) (fun n => iprop(slotAny (tgt n.val c) n.val ∗ reached ER (rcvCell (tgt n.val c) n) 0))
  else if d = 2 then bigSep (Finset.univ.filter fun n : Fin 20 => ¬ Intra n.val) (fun n => iprop(slotAny (tgt n.val c) n.val ∗ reached ER (rcvCell (tgt n.val c) n) 0))
  else iprop(emp)
def sndPay (c : Dev nD) (n : Fin 20) : sProp 𝕄 := outOn c (outSet n.val (tgt n.val c)) (acc part n.val c)
def rcvPay (c : Dev nD) (n : Fin 20) : sProp 𝕄 := slotAt part c n.val

def dmaPay (c : Dev nD) : Option (Bool × Fin 20) → sProp 𝕄
  | some (false, n) => sndPay part c n
  | some (true, n) => rcvPay part c n
  | none => iprop(emp)
def pay (c : Dev nD) : SemLoc sig → Fin 4 → sProp 𝕄
  | .reg _, d => barPay c d
  | .dma s, _ => dmaPay part c (kindOf s)
def dutiesOf : SemLoc sig → Finset (Fin 4)
  | .reg _ => Finset.univ
  | .dma _ => {0}
def amtOf : SemLoc sig → ℕ
  | .reg _ => 1
  | .dma s => match kindOf s with
    | some (_, n) => amt n.val
    | none => 1
theorem amtOf_pos (s : SemLoc sig) : 0 < amtOf s := by
  unfold amtOf
  split
  · exact Nat.one_pos
  · split
    · exact amt_pos _
    · exact Nat.one_pos

def ringRd : Rounds.Schedule (GSem nD τ sig) (Fin 4) 𝕄 where
  duties g r := if r = 0 then dutiesOf g.2 else ∅
  unitless _ := False
  amount g _ _ := amtOf g.2
  payload g _ d := pay part g.1.1 g.2 d
  amount_pos g _ _ _ := amtOf_pos g.2

instance slotAny_storable (c : Dev nD) (n : ℕ) : BI.Storable (upEmb : UEmb _ 𝕄) (slotAny (F := F) c n) := by
  unfold slotAny; (repeat' split) <;> infer_instance
instance slotAt_storable (c : Dev nD) (n : ℕ) : BI.Storable (upEmb : UEmb _ 𝕄) (slotAt part c n) := by
  unfold slotAt; (repeat' split) <;> infer_instance
instance barPay_storable (c : Dev nD) (d : Fin 4) : BI.Storable (upEmb : UEmb _ 𝕄) (barPay (F := F) c d) := by
  unfold barPay; (repeat' split) <;> infer_instance
instance dmaPay_storable (c : Dev nD) (o : Option (Bool × Fin 20)) : BI.Storable (upEmb : UEmb _ 𝕄) (dmaPay part c o) := by
  unfold dmaPay; split
  · unfold sndPay; infer_instance
  · unfold rcvPay; infer_instance
  · infer_instance
instance ringRd_payload_storable (g : GSem nD τ sig) (r : ℕ) (d : Fin 4) :
    BI.Storable (upEmb : UEmb _ 𝕄) ((ringRd part).payload g r d) := by
  show BI.Storable upEmb (pay part g.1.1 g.2 d)
  unfold pay; split <;> infer_instance

section Tables

variable (c : Dev nD) (n : Fin 20)

theorem duties_bar : (ringRd part).duties (barCell c) 0 = Finset.univ := rfl
theorem duties_snd : (ringRd part).duties (sndCell c n) 0 = {0} := rfl
theorem duties_rcv : (ringRd part).duties (rcvCell c n) 0 = {0} := rfl
theorem duties_later (g : GSem nD τ sig) : ∀ r, 1 ≤ r → (ringRd part).duties g r = ∅ :=
  fun r hr => if_neg (by omega)
theorem amount_bar (d : Fin 4) : (ringRd part).amount (barCell c) 0 d = 1 := rfl
theorem amount_snd (d : Fin 4) : (ringRd part).amount (sndCell c n) 0 d = amt n.val := by
  show amtOf (.dma (sndS n)) = _; unfold amtOf; simp only [kindOf_snd]
theorem amount_rcv (d : Fin 4) : (ringRd part).amount (rcvCell c n) 0 d = amt n.val := by
  show amtOf (.dma (rcvS n)) = _; unfold amtOf; simp only [kindOf_rcv]
theorem expect_bar : (ringRd part).expect (barCell c) 0 = 4 := by
  unfold Schedule.expect Schedule.amountOf; rw [duties_bar]; simp only [amount_bar]; decide
theorem expect_snd : (ringRd part).expect (sndCell c n) 0 = amt n.val := by
  unfold Schedule.expect Schedule.amountOf; rw [duties_snd, Finset.sum_singleton, amount_snd]
theorem expect_rcv : (ringRd part).expect (rcvCell c n) 0 = amt n.val := by
  unfold Schedule.expect Schedule.amountOf; rw [duties_rcv, Finset.sum_singleton, amount_rcv]
theorem payload_bar (d : Fin 4) : (ringRd part).payload (barCell c) 0 d = barPay c d := rfl
theorem payload_snd (d : Fin 4) : (ringRd part).payload (sndCell c n) 0 d = sndPay part c n := by
  show dmaPay part c (kindOf (sndS n)) = _; rw [kindOf_snd]; rfl
theorem payload_rcv (d : Fin 4) : (ringRd part).payload (rcvCell c n) 0 d = rcvPay part c n := by
  show dmaPay part c (kindOf (rcvS n)) = _; rw [kindOf_rcv]; rfl
theorem rest_snd : bigSep ((ringRd part).duties (sndCell c n) 0 \ ∅) (fun u => (ringRd part).payload (sndCell c n) 0 u) = sndPay part c n := by
  rw [Finset.sdiff_empty, duties_snd, bigSep_singleton, payload_snd]
theorem rest_rcv : bigSep ((ringRd part).duties (rcvCell c n) 0 \ ∅) (fun u => (ringRd part).payload (rcvCell c n) 0 u) = rcvPay part c n := by
  rw [Finset.sdiff_empty, duties_rcv, bigSep_singleton, payload_rcv]

end Tables

/-! ## What each device owes, and the levels -/

/-- What device `c` still owes before step `k`: the receive credits of the messages of the steps from `k` on. -/
def Owe (k : ℕ) (c : Dev nD) : CellTallies nD τ sig Unit :=
  ∑ n ∈ Finset.univ.filter (fun n : Fin 20 => k ≤ n.val), tallyAt (rcvCell (tgt n.val c) n) () (amt n.val)

theorem Owe_step (n : Fin 20) (c : Dev nD) : Owe n.val c = Owe (n.val + 1) c + tallyAt (rcvCell (tgt n.val c) n) () (amt n.val) := by
  unfold Owe
  have h : (Finset.univ.filter fun j : Fin 20 => n.val ≤ j.val) = insert n (Finset.univ.filter fun j : Fin 20 => n.val + 1 ≤ j.val) := by
    revert n; decide
  rw [h, Finset.sum_insert (by simp), add_comm]
theorem Owe_end (c : Dev nD) : Owe 20 c = 0 := by
  unfold Owe
  rw [show (Finset.univ.filter fun j : Fin 20 => 20 ≤ j.val) = ∅ by decide, Finset.sum_empty]

def L (g : GSem nD τ sig) : Finset Unit := if g.1.2 = .tc then {()} else ∅
/-- The barrier cells are below every receive cell, the receive cells in the order of the steps, everything else lowest. -/
def lvOf : SemLoc sig → ℕ
  | .reg _ => 1
  | .dma s => match kindOf s with
    | some (true, n) => n.val + 2
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_snd (c : Dev nD) (n : Fin 20) : lv (sndCell c n) () = 0 := by
  show lvOf (.dma (sndS n)) = _; unfold lvOf; simp only [kindOf_snd]
theorem lv_rcv (c : Dev nD) (n : Fin 20) : lv (rcvCell c n) () = n.val + 2 := by
  show lvOf (.dma (rcvS n)) = _; unfold lvOf; simp only [kindOf_rcv]
theorem lv_bar (c : Dev nD) : lv (barCell c) () = 1 := rfl

/-- A sum of tallies is positive only where one of them is. -/
theorem pos_of_sum {ι : Type} (S : Finset ι) (f : ι → CellTallies nD τ sig Unit) (g : GSem nD τ sig) (u : Unit)
    (h : 0 < (∑ n ∈ S, f n) g u) : ∃ n ∈ S, 0 < f n g u := by
  by_contra hn
  have h0 : ∀ n ∈ S, f n g u = 0 := fun n hS => by
    by_contra hne; exact hn ⟨n, hS, Nat.pos_of_ne_zero hne⟩
  rw [Finset.sum_apply, Finsupp.finset_sum_apply, Finset.sum_eq_zero h0] at h
  exact absurd h (Nat.lt_irrefl 0)

theorem Owe_pos {k : ℕ} {c : Dev nD} {g : GSem nD τ sig} {u : Unit} (h : 0 < Owe k c g u) :
    ∃ n : Fin 20, k ≤ n.val ∧ g = rcvCell (tgt n.val c) n := by
  obtain ⟨n, hn, hp⟩ := pos_of_sum _ _ _ _ h
  refine ⟨n, (Finset.mem_filter.mp hn).2, ?_⟩
  rw [tallyAt_apply] at hp
  by_contra hne
  rw [if_neg (fun e => hne e.1)] at hp
  exact absurd hp (Nat.lt_irrefl 0)

/-- A wait on a cell of level at most `b`, owing what is owed before step `k`, is allowed if `b` is below the level of step `k`'s
    receive cell. -/
theorem mayWait (c : Dev nD) (sm : SemLoc sig) (k b : ℕ) (hs : lv ((c : Thread nD τ), sm) () ≤ b) (hb : b < k + 2) :
    (levAts L lv : sProp 𝕄) ⊢ MayWait (c : Thread nD τ) sm () (Owe k c) :=
  MayOwe.of_cut (L := L) (lev := lv) b (fun p hp => by rw [Finset.mem_singleton.mp hp, L_tc]; exact Finset.mem_singleton_self _)
    (fun g u hg => by
      obtain ⟨n, -, rfl⟩ := Owe_pos hg
      rw [L_tc]; exact Finset.mem_singleton_self _)
    (fun p hp => by rw [Finset.mem_singleton.mp hp]; exact hs)
    (fun g u hg => by
      obtain ⟨n, hn, rfl⟩ := Owe_pos hg
      rw [lv_rcv]; omega)

end Cert.AllReduce
-- ==== Proof.Views.lean ====
/-
  The kernel's views, as sets of elements and as index maps: the row blocks of the accumulator that are sent and updated, and
  the landing slots. What a message leaves in a landing slot, and what the update after it leaves in the accumulator.
-/
module

public import proofs.«01_k».proof.Proof.Sched

@[expose] public section

set_option maxRecDepth 16384

noncomputable section

namespace Cert.AllReduce

open Cert.KernelIdeal Cert.KernelIdeal.Gen
open Idealize.ShloMosaic
open Idealize.ShloMosaic.TcCoe
open Idealize.ShloMosaic.ValueIdx (ix1 ix2 ix3 ix4 eq_ix1 eq_ix2 eq_ix3 eq_ix4)

variable {F : FTy → Type}

/-! ## Index maps -/

section Emb

variable {κ : Kind} {sp : Space} {e : EltTy}

/-- The rectangle of four rows from row `o`. -/
theorem emb_row4 (v : View sig κ sp S32x32x1024 e) (off : Fin 3 → ℕ) (inb : ∀ a, off a + S4x32x1024.size a ≤ S32x32x1024.size a) (o : ℕ)
    (h : off = ![o, 0, 0]) (ho : o + 4 ≤ 32) (y : S4x32x1024.Idx) :
    (v.slice (Rect.unit (s := S32x32x1024) off S4x32x1024.size inb)).emb y
      = v.emb (ix3 (⟨o + (y 0).val, by have : (y 0).val < 4 := (y 0).isLt; omega⟩ : Fin 32) (y 1) (y 2)) := by
  subst h
  rw [View.emb_slice]
  refine congrArg v.emb (Shape.idx3_ext ?_ ?_ ?_)
  · show o + 1 * (y 0).val = o + (y 0).val; omega
  · show 0 + 1 * (y 1).val = (y 1).val; omega
  · show 0 + 1 * (y 2).val = (y 2).val; omega

/-- The rectangle of one row, row `o`. -/
theorem emb_row1 (v : View sig κ sp S32x32x1024 e) (off : Fin 3 → ℕ) (inb : ∀ a, off a + S1x32x1024.size a ≤ S32x32x1024.size a) (o : ℕ)
    (h : off = ![o, 0, 0]) (ho : o < 32) (y : S1x32x1024.Idx) :
    (v.slice (Rect.unit (s := S32x32x1024) off S1x32x1024.size inb)).emb y
      = v.emb (ix3 (⟨o, ho⟩ : Fin 32) (y 1) (y 2)) := by
  subst h
  rw [View.emb_slice]
  refine congrArg v.emb (Shape.idx3_ext ?_ ?_ ?_)
  · show o + 1 * (y 0).val = o
    have : (y 0).val < 1 := (y 0).isLt
    omega
  · show 0 + 1 * (y 1).val = (y 1).val; omega
  · show 0 + 1 * (y 2).val = (y 2).val; omega

/-- Slot `k` of a landing buffer of seven, with its leading axis, -/
theorem emb_slot7 (v : View sig κ sp S7x4x32x1024 e) (off : Fin 4 → ℕ) (inb : ∀ a, off a + S1x4x32x1024.size a ≤ S7x4x32x1024.size a) (k : ℕ)
    (h : off = ![k, 0, 0, 0]) (hk : k < 7) (y : S1x4x32x1024.Idx) :
    (v.slice (Rect.unit (s := S7x4x32x1024) off S1x4x32x1024.size inb)).emb y
      = v.emb (ix4 (⟨k, hk⟩ : Fin 7) (y 1) (y 2) (y 3)) := by
  subst h
  rw [View.emb_slice]
  refine congrArg v.emb (funext fun a => Fin.ext ?_)
  match a with
  | ⟨0, _⟩ =>
    show k + 1 * (y 0).val = k
    have : (y 0).val < 1 := (y 0).isLt
    omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-- and without it. -/
theorem emb_slot7s (v : View sig κ sp S7x4x32x1024 e) (off : Fin 4 → ℕ) (inb : ∀ a, off a + S1x4x32x1024.size a ≤ S7x4x32x1024.size a) (k : ℕ)
    (h : off = ![k, 0, 0, 0]) (hk : k < 7) (hn : S4x32x1024.numel = S1x4x32x1024.numel) (y : S4x32x1024.Idx) :
    ((v.slice (Rect.unit (s := S7x4x32x1024) off S1x4x32x1024.size inb)).reshape S4x32x1024 hn).emb y
      = v.emb (ix4 (⟨k, hk⟩ : Fin 7) (y 0) (y 1) (y 2)) := by
  rw [View.emb_reshape]
  refine (emb_slot7 v off inb k h hk (Shape.reshapeEquiv hn y)).trans ?_
  have e : Shape.reshapeEquiv hn y = ix4 (⟨0, Nat.one_pos⟩ : Fin 1) (y 0) (y 1) (y 2) := by
    rw [show y = ix3 (n0 := 4) (n1 := 32) (n2 := 1024) (y 0) (y 1) (y 2) from eq_ix3 y]
    exact ValueIdx.reshapeEquiv_ix3_1abc hn (y 0) (y 1) (y 2)
  rw [e]

/-- Slot `k` of the landing buffer of six, with its leading axis, -/
theorem emb_slot6 (v : View sig κ sp S6x32x1024 e) (off : Fin 3 → ℕ) (inb : ∀ a, off a + S1x32x1024.size a ≤ S6x32x1024.size a) (k : ℕ)
    (h : off = ![k, 0, 0]) (hk : k < 6) (y : S1x32x1024.Idx) :
    (v.slice (Rect.unit (s := S6x32x1024) off S1x32x1024.size inb)).emb y
      = v.emb (ix3 (⟨k, hk⟩ : Fin 6) (y 1) (y 2)) := by
  subst h
  rw [View.emb_slice]
  refine congrArg v.emb (Shape.idx3_ext ?_ ?_ ?_)
  · show k + 1 * (y 0).val = k
    have : (y 0).val < 1 := (y 0).isLt
    omega
  · show 0 + 1 * (y 1).val = (y 1).val; omega
  · show 0 + 1 * (y 2).val = (y 2).val; omega

/-- and without it; -/
theorem emb_slot6s (v : View sig κ sp S6x32x1024 e) (off : Fin 3 → ℕ) (inb : ∀ a, off a + S1x32x1024.size a ≤ S6x32x1024.size a) (k : ℕ)
    (h : off = ![k, 0, 0]) (hk : k < 6) (hn : S32x1024.numel = S1x32x1024.numel) (y : S32x1024.Idx) :
    ((v.slice (Rect.unit (s := S6x32x1024) off S1x32x1024.size inb)).reshape S32x1024 hn).emb y
      = v.emb (ix3 (⟨k, hk⟩ : Fin 6) (y 0) (y 1)) := by
  rw [View.emb_reshape]
  refine (emb_slot6 v off inb k h hk (Shape.reshapeEquiv hn y)).trans ?_
  have e : Shape.reshapeEquiv hn y = ix3 (⟨0, Nat.one_pos⟩ : Fin 1) (y 0) (y 1) := by
    rw [show y = ix2 (n0 := 32) (n1 := 1024) (y 0) (y 1) from eq_ix2 y]
    exact ValueIdx.reshapeEquiv_ix2_1ab hn (y 0) (y 1)
  rw [e]

/-- one row of the accumulator without its leading axis. -/
theorem emb_row1s (v : View sig κ sp S32x32x1024 e) (off : Fin 3 → ℕ) (inb : ∀ a, off a + S1x32x1024.size a ≤ S32x32x1024.size a) (o : ℕ)
    (h : off = ![o, 0, 0]) (ho : o < 32) (hn : S32x1024.numel = S1x32x1024.numel) (y : S32x1024.Idx) :
    ((v.slice (Rect.unit (s := S32x32x1024) off S1x32x1024.size inb)).reshape S32x1024 hn).emb y
      = v.emb (ix3 (⟨o, ho⟩ : Fin 32) (y 0) (y 1)) := by
  rw [View.emb_reshape]
  refine (emb_row1 v off inb o h ho (Shape.reshapeEquiv hn y)).trans ?_
  have e : Shape.reshapeEquiv hn y = ix3 (⟨0, Nat.one_pos⟩ : Fin 1) (y 0) (y 1) := by
    rw [show y = ix2 (n0 := 32) (n1 := 1024) (y 0) (y 1) from eq_ix2 y]
    exact ValueIdx.reshapeEquiv_ix2_1ab hn (y 0) (y 1)
  rw [e]

end Emb

/-! ## Sets of rows and slots -/

theorem set_row4 (off : Fin 3 → ℕ) (inb : ∀ a, off a + S4x32x1024.size a ≤ S32x32x1024.size a) (n : ℕ) (c : Dev nD)
    (h : off = ![rcvOff n c, 0, 0]) (hn : Intra n) :
    (Rect.unit (s := S32x32x1024) off S4x32x1024.size inb).set = outSet n c := by
  subst h
  ext i
  rw [Rect.mem_set_unit, outSet, Finset.mem_filter, rcvRow, show rcvLen n = 4 from if_pos hn]
  constructor
  · intro H; exact ⟨Finset.mem_univ _, H 0⟩
  · rintro ⟨-, H⟩ a
    match a with
    | ⟨0, _⟩ => exact H
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

theorem set_row1 (off : Fin 3 → ℕ) (inb : ∀ a, off a + S1x32x1024.size a ≤ S32x32x1024.size a) (n : ℕ) (c : Dev nD)
    (h : off = ![rcvOff n c, 0, 0]) (hn : ¬ Intra n) :
    (Rect.unit (s := S32x32x1024) off S1x32x1024.size inb).set = outSet n c := by
  subst h
  ext i
  rw [Rect.mem_set_unit, outSet, Finset.mem_filter, rcvRow, show rcvLen n = 1 from if_neg hn]
  constructor
  · intro H; exact ⟨Finset.mem_univ _, H 0⟩
  · rintro ⟨-, H⟩ a
    match a with
    | ⟨0, _⟩ => exact H
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

theorem set_slot7 (off : Fin 4 → ℕ) (inb : ∀ a, off a + S1x4x32x1024.size a ≤ S7x4x32x1024.size a) (k : ℕ) (h : off = ![k, 0, 0, 0]) :
    (Rect.unit (s := S7x4x32x1024) off S1x4x32x1024.size inb).set = slot7 k := by
  subst h
  ext i
  rw [Rect.mem_set_unit, slot7, Finset.mem_filter]
  constructor
  · intro H
    have H0 : k ≤ (i 0).val ∧ (i 0).val < k + 1 := H 0
    exact ⟨Finset.mem_univ _, by omega⟩
  · rintro ⟨-, H⟩ a
    match a with
    | ⟨0, _⟩ => show k ≤ (i 0).val ∧ (i 0).val < k + 1; omega
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩
    | ⟨3, _⟩ => exact ⟨Nat.zero_le _, lt_of_lt_of_eq (i 3).isLt (Nat.zero_add _).symm⟩

theorem set_slot6 (off : Fin 3 → ℕ) (inb : ∀ a, off a + S1x32x1024.size a ≤ S6x32x1024.size a) (k : ℕ) (h : off = ![k, 0, 0]) :
    (Rect.unit (s := S6x32x1024) off S1x32x1024.size inb).set = slot6 k := by
  subst h
  ext i
  rw [Rect.mem_set_unit, slot6, Finset.mem_filter]
  constructor
  · intro H
    have H0 : k ≤ (i 0).val ∧ (i 0).val < k + 1 := H 0
    exact ⟨Finset.mem_univ _, by omega⟩
  · rintro ⟨-, H⟩ a
    match a with
    | ⟨0, _⟩ => show k ≤ (i 0).val ∧ (i 0).val < k + 1; omega
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

/-! ## The kernel's memrefs -/

/-- Group reduce-scatter: the rows sent, the slot they land in, the rows updated. -/
abbrev srcA (c : Dev nD) (k : Fin k1_t1_loop.trips) : Memref sig .tc .vmem S4x32x1024 .f32 :=
  outM.slice (Rect.unit (s := S32x32x1024) (k1_off3 c k) S4x32x1024.size (k1_off3_inb c k)) (fun _ => rfl)
abbrev dstA (k : Fin k1_t1_loop.trips) : Memref sig .tc .vmem S4x32x1024 .f32 :=
  (aM.slice (Rect.unit (s := S7x4x32x1024) (k1_off2 k) S1x4x32x1024.size (k1_off2_inb k)) (fun _ => rfl)).squeeze S4x32x1024
    squeezes_S1x4x32x1024_S4x32x1024
/-- Reduce-scatter across the groups. -/
abbrev srcR (c : Dev nD) (k : Fin k1_t2_loop.trips) : Memref sig .tc .vmem S32x1024 .f32 :=
  (outM.slice (Rect.unit (s := S32x32x1024) (k1_off8 c k) S1x32x1024.size (k1_off8_inb c k)) (fun _ => rfl)).squeeze S32x1024
    squeezes_S1x32x1024_S32x1024
abbrev dstR (k : Fin k1_t2_loop.trips) : Memref sig .tc .vmem S32x1024 .f32 :=
  (bM.slice (Rect.unit (s := S6x32x1024) (k1_off7 k) S1x32x1024.size (k1_off7_inb k)) (fun _ => rfl)).squeeze S32x1024
    squeezes_S1x32x1024_S32x1024
/-- All-gather across the groups. -/
abbrev srcG (c : Dev nD) (k : Fin k1_t3_loop.trips) : Memref sig .tc .vmem S32x1024 .f32 :=
  (outM.slice (Rect.unit (s := S32x32x1024) (k1_off13 c k) S1x32x1024.size (k1_off13_inb c k)) (fun _ => rfl)).squeeze S32x1024
    squeezes_S1x32x1024_S32x1024
abbrev dstG (k : Fin k1_t3_loop.trips) : Memref sig .tc .vmem S32x1024 .f32 :=
  (bM.slice (Rect.unit (s := S6x32x1024) (k1_off12 k) S1x32x1024.size (k1_off12_inb k)) (fun _ => rfl)).squeeze S32x1024
    squeezes_S1x32x1024_S32x1024
/-- Group all-gather. -/
abbrev srcC (c : Dev nD) (k : Fin k1_t4_loop.trips) : Memref sig .tc .vmem S4x32x1024 .f32 :=
  outM.slice (Rect.unit (s := S32x32x1024) (k1_off18 c k) S4x32x1024.size (k1_off18_inb c k)) (fun _ => rfl)
abbrev dstC (k : Fin k1_t4_loop.trips) : Memref sig .tc .vmem S4x32x1024 .f32 :=
  (cM.slice (Rect.unit (s := S7x4x32x1024) (k1_off17 k) S1x4x32x1024.size (k1_off17_inb k)) (fun _ => rfl)).squeeze S4x32x1024
    squeezes_S1x4x32x1024_S4x32x1024

theorem lt7A (k : Fin k1_t1_loop.trips) : k.val < 7 := lt_of_lt_of_eq k.isLt trips1
theorem lt3R (k : Fin k1_t2_loop.trips) : k.val < 3 := lt_of_lt_of_eq k.isLt trips2
theorem lt3G (k : Fin k1_t3_loop.trips) : k.val < 3 := lt_of_lt_of_eq k.isLt trips3
theorem lt7C (k : Fin k1_t4_loop.trips) : k.val < 7 := lt_of_lt_of_eq k.isLt trips4

/-- The steps of the four loops. -/
abbrev nA (k : Fin k1_t1_loop.trips) : Fin 20 := ⟨k.val, Nat.lt_trans (lt7A k) (by decide)⟩
abbrev nR (k : Fin k1_t2_loop.trips) : Fin 20 := ⟨7 + k.val, Nat.lt_trans (Nat.add_lt_add_left (lt3R k) 7) (by decide)⟩
abbrev nG (k : Fin k1_t3_loop.trips) : Fin 20 := ⟨10 + k.val, Nat.lt_trans (Nat.add_lt_add_left (lt3G k) 10) (by decide)⟩
abbrev nC (k : Fin k1_t4_loop.trips) : Fin 20 := ⟨13 + k.val, Nat.add_lt_add_left (lt7C k) 13⟩

theorem tgtA (k : Fin k1_t1_loop.trips) (c : Dev nD) : tgt k.val c = ir c := if_pos (Or.inl (lt7A k))
theorem tgtR (k : Fin k1_t2_loop.trips) (c : Dev nD) : tgt (7 + k.val) c = xr c := if_neg (by have := lt3R k; unfold Intra; omega)
theorem tgtG (k : Fin k1_t3_loop.trips) (c : Dev nD) : tgt (10 + k.val) c = xr c := if_neg (by have := lt3G k; unfold Intra; omega)
theorem tgtC (k : Fin k1_t4_loop.trips) (c : Dev nD) : tgt (13 + k.val) c = ir c := if_pos (Or.inr (by omega))

/-- The kernel's semaphores. -/
theorem semA_snd : ∀ k : Fin k1_t1_loop.trips,
    ((cc1_scratch3.slice (Rect.unit (s := S7) (k1_off1 k) S1.size (k1_off1_inb k))).squeeze S_ squeezes_S1_S_).sem = sndS (nA k) := by decide +kernel
theorem semA_rcv : ∀ k : Fin k1_t1_loop.trips,
    ((cc1_scratch4.slice (Rect.unit (s := S7) (k1_off1 k) S1.size (k1_off1_inb k))).squeeze S_ squeezes_S1_S_).sem = rcvS (nA k) := by decide +kernel
theorem semR_snd : ∀ k : Fin k1_t2_loop.trips,
    ((cc1_scratch5.slice (Rect.unit (s := S6) (k1_off6 k) S1.size (k1_off6_inb k))).squeeze S_ squeezes_S1_S_).sem = sndS (nR k) := by decide +kernel
theorem semR_rcv : ∀ k : Fin k1_t2_loop.trips,
    ((cc1_scratch6.slice (Rect.unit (s := S6) (k1_off6 k) S1.size (k1_off6_inb k))).squeeze S_ squeezes_S1_S_).sem = rcvS (nR k) := by decide +kernel
theorem semG_snd : ∀ k : Fin k1_t3_loop.trips,
    ((cc1_scratch5.slice (Rect.unit (s := S6) (k1_off11 k) S1.size (k1_off11_inb k))).squeeze S_ squeezes_S1_S_).sem = sndS (nG k) := by decide +kernel
theorem semG_rcv : ∀ k : Fin k1_t3_loop.trips,
    ((cc1_scratch6.slice (Rect.unit (s := S6) (k1_off11 k) S1.size (k1_off11_inb k))).squeeze S_ squeezes_S1_S_).sem = rcvS (nG k) := by decide +kernel
theorem semC_snd : ∀ k : Fin k1_t4_loop.trips,
    ((cc1_scratch7.slice (Rect.unit (s := S7) (k1_off16 k) S1.size (k1_off16_inb k))).squeeze S_ squeezes_S1_S_).sem = sndS (nC k) := by decide +kernel
theorem semC_rcv : ∀ k : Fin k1_t4_loop.trips,
    ((cc1_scratch8.slice (Rect.unit (s := S7) (k1_off16 k) S1.size (k1_off16_inb k))).squeeze S_ squeezes_S1_S_).sem = rcvS (nC k) := by decide +kernel

/-! ## Their sets -/

theorem set_srcA (c : Dev nD) (k : Fin k1_t1_loop.trips) : (srcA c k).view.set = outSet k.val (tgt k.val c) := by
  rw [tgtA]
  exact (View.set_slice_whole cc1_stg1_0 _).trans (set_row4 _ _ _ _ (off3_eq c k) (Or.inl (lt7A k)))
theorem set_dstA (k : Fin k1_t1_loop.trips) : (dstA k).view.set = slot7 k.val :=
  (View.set_reshape _ _).trans ((View.set_slice_whole cc1_scratch0 _).trans (set_slot7 _ _ _ (k1_off2_eq k)))
theorem set_srcR (c : Dev nD) (k : Fin k1_t2_loop.trips) : (srcR c k).view.set = outSet (7 + k.val) (tgt (7 + k.val) c) := by
  rw [tgtR]
  exact (View.set_reshape _ _).trans ((View.set_slice_whole cc1_stg1_0 _).trans
    (set_row1 _ _ _ _ (off8_eq c k) (by have := lt3R k; unfold Intra; omega)))
theorem set_dstR (k : Fin k1_t2_loop.trips) : (dstR k).view.set = slot6 k.val :=
  (View.set_reshape _ _).trans ((View.set_slice_whole cc1_scratch1 _).trans (set_slot6 _ _ _ (k1_off7_eq k)))
theorem set_srcG (c : Dev nD) (k : Fin k1_t3_loop.trips) : (srcG c k).view.set = outSet (10 + k.val) (tgt (10 + k.val) c) := by
  rw [tgtG]
  exact (View.set_reshape _ _).trans ((View.set_slice_whole cc1_stg1_0 _).trans
    (set_row1 _ _ _ _ (off13_eq c k) (by have := lt3G k; unfold Intra; omega)))
theorem set_dstG (k : Fin k1_t3_loop.trips) : (dstG k).view.set = slot6 (k.val + 3) :=
  (View.set_reshape _ _).trans ((View.set_slice_whole cc1_scratch1 _).trans (set_slot6 _ _ _ (k1_off12_eq k)))
theorem set_srcC (c : Dev nD) (k : Fin k1_t4_loop.trips) : (srcC c k).view.set = outSet (13 + k.val) (tgt (13 + k.val) c) := by
  rw [tgtC]
  exact (View.set_slice_whole cc1_stg1_0 _).trans (set_row4 _ _ _ _ (off18_eq c k) (Or.inr (by omega)))
theorem set_dstC (k : Fin k1_t4_loop.trips) : (dstC k).view.set = slot7 k.val :=
  (View.set_reshape _ _).trans ((View.set_slice_whole cc1_scratch2 _).trans (set_slot7 _ _ _ (k1_off17_eq k)))

/-! ## What lands -/

section Landing

variable [FloatOps F] (part : Dev nD → AllBuf F)

theorem St_ix {n m : ℕ} (hnm : n = m) {c d : Dev nD} (hcd : c = d) {i j : S32x32x1024.Idx} (h0 : (i 0).val = (j 0).val) (h1 : (i 1).val = (j 1).val)
    (h2 : (i 2).val = (j 2).val) : acc part n c i = acc part m d j := by
  subst hcd hnm; rw [show i = j from Shape.idx3_ext h0 h1 h2]

/-- After step `k` of the group reduce-scatter the slot of the next member holds what `CA` says. -/
theorem landA (c : Dev nD) (k : Fin k1_t1_loop.trips) (fd : S7x4x32x1024.Idx → Elt F .f32) (i : S7x4x32x1024.Idx) (hi : i ∈ slot7 k.val) :
    (dstA k).view.write (Elt F) fd ((srcA c k).view.read (Elt F) (acc part k.val c)) Finset.univ i = CA part (tgt k.val c) i := by
  rw [tgtA]
  have hk : (i 0).val = k.val := (Finset.mem_filter.mp hi).2
  have ei : i = (dstA k).view.emb (ix3 (n0 := 4) (n1 := 32) (n2 := 1024) (i 1) (i 2) (i 3)) := by
    refine Eq.trans ?_ (emb_slot7s (View.whole cc1_scratch0) _ _ k.val (k1_off2_eq k) (lt7A k) _ _).symm
    show i = ix4 _ _ _ _
    refine (eq_ix4 (n0 := 7) (n1 := 4) (n2 := 32) (n3 := 1024) i).trans ?_
    rw [show (i 0 : Fin 7) = ⟨k.val, lt7A k⟩ from Fin.ext hk]
    rfl
  refine (congrArg _ ei).trans ((View.write_emb_of_mem _ _ (Finset.mem_univ _)).trans ?_)
  show acc part k.val c ((srcA c k).view.emb _) = _
  unfold CA
  rw [show (srcA c k).view.emb _ = _ from emb_row4 (View.whole cc1_stg1_0) _ _ _ (off3_eq c k) (by
    have := rcvOff_add_le k.val (ir c); rwa [show rcvLen k.val = 4 from if_pos (Or.inl (lt7A k))] at this) _]
  exact St_ix part hk.symm (il_ir c).symm (show rcvOff (k.val) (ir c) + (i 1).val = rcvOff ((i 0).val) (ir c) + (i 1).val by
    rw [show (i 0).val = k.val by omega]) rfl rfl

theorem landC (c : Dev nD) (k : Fin k1_t4_loop.trips) (fd : S7x4x32x1024.Idx → Elt F .f32) (i : S7x4x32x1024.Idx) (hi : i ∈ slot7 k.val) :
    (dstC k).view.write (Elt F) fd ((srcC c k).view.read (Elt F) (acc part (13 + k.val) c)) Finset.univ i = CC part (tgt (13 + k.val) c) i := by
  rw [tgtC]
  have hk : (i 0).val = k.val := (Finset.mem_filter.mp hi).2
  have ei : i = (dstC k).view.emb (ix3 (n0 := 4) (n1 := 32) (n2 := 1024) (i 1) (i 2) (i 3)) := by
    refine Eq.trans ?_ (emb_slot7s (View.whole cc1_scratch2) _ _ k.val (k1_off17_eq k) (lt7C k) _ _).symm
    show i = ix4 _ _ _ _
    refine (eq_ix4 (n0 := 7) (n1 := 4) (n2 := 32) (n3 := 1024) i).trans ?_
    rw [show (i 0 : Fin 7) = ⟨k.val, lt7C k⟩ from Fin.ext hk]
    rfl
  refine (congrArg _ ei).trans ((View.write_emb_of_mem _ _ (Finset.mem_univ _)).trans ?_)
  show acc part (13 + k.val) c ((srcC c k).view.emb _) = _
  unfold CC
  rw [show (srcC c k).view.emb _ = _ from emb_row4 (View.whole cc1_stg1_0) _ _ _ (off18_eq c k) (by
    have := rcvOff_add_le (13 + k.val) (ir c); rwa [show rcvLen (13 + k.val) = 4 from if_pos (Or.inr (by omega))] at this) _]
  exact St_ix part (by omega : 13 + k.val = 13 + (i 0).val) (il_ir c).symm (show rcvOff (13 + k.val) (ir c) + (i 1).val = rcvOff (13 + (i 0).val) (ir c) + (i 1).val by
    rw [show 13 + (i 0).val = 13 + k.val by omega]) rfl rfl

theorem landR (c : Dev nD) (k : Fin k1_t2_loop.trips) (fd : S6x32x1024.Idx → Elt F .f32) (i : S6x32x1024.Idx) (hi : i ∈ slot6 k.val) :
    (dstR k).view.write (Elt F) fd ((srcR c k).view.read (Elt F) (acc part (7 + k.val) c)) Finset.univ i = CB part (tgt (7 + k.val) c) i := by
  rw [tgtR]
  have hl := lt3R k
  have hk : (i 0).val = k.val := (Finset.mem_filter.mp hi).2
  have ei : i = (dstR k).view.emb (ix2 (n0 := 32) (n1 := 1024) (i 1) (i 2)) := by
    refine Eq.trans ?_ (emb_slot6s (View.whole cc1_scratch1) _ _ k.val (k1_off7_eq k) (by omega) _ _).symm
    show i = ix3 _ _ _
    refine (eq_ix3 (n0 := 6) (n1 := 32) (n2 := 1024) i).trans ?_
    rw [show (i 0 : Fin 6) = ⟨k.val, by omega⟩ from Fin.ext hk]
    rfl
  refine (congrArg _ ei).trans ((View.write_emb_of_mem _ _ (Finset.mem_univ _)).trans ?_)
  show acc part (7 + k.val) c ((srcR c k).view.emb _) = _
  unfold CB
  rw [show (srcR c k).view.emb _ = _ from emb_row1s (View.whole cc1_stg1_0) _ _ _ (off8_eq c k) (by
    have := rcvOff_add_le (7 + k.val) (xr c); rw [show rcvLen (7 + k.val) = 1 from if_neg (by unfold Intra; omega)] at this; omega) _ _]
  exact St_ix part (by omega : 7 + k.val = 7 + (i 0).val) (xl_xr c).symm (show rcvOff (7 + k.val) (xr c) = rcvOff (7 + (i 0).val) (xr c) by
    rw [show 7 + (i 0).val = 7 + k.val by omega]) rfl rfl

theorem landG (c : Dev nD) (k : Fin k1_t3_loop.trips) (fd : S6x32x1024.Idx → Elt F .f32) (i : S6x32x1024.Idx) (hi : i ∈ slot6 (k.val + 3)) :
    (dstG k).view.write (Elt F) fd ((srcG c k).view.read (Elt F) (acc part (10 + k.val) c)) Finset.univ i = CB part (tgt (10 + k.val) c) i := by
  rw [tgtG]
  have hl := lt3G k
  have hk : (i 0).val = k.val + 3 := (Finset.mem_filter.mp hi).2
  have ei : i = (dstG k).view.emb (ix2 (n0 := 32) (n1 := 1024) (i 1) (i 2)) := by
    refine Eq.trans ?_ (emb_slot6s (View.whole cc1_scratch1) _ _ (k.val + 3) (k1_off12_eq k) (by omega) _ _).symm
    show i = ix3 _ _ _
    refine (eq_ix3 (n0 := 6) (n1 := 32) (n2 := 1024) i).trans ?_
    rw [show (i 0 : Fin 6) = ⟨k.val + 3, by omega⟩ from Fin.ext hk]
    rfl
  refine (congrArg _ ei).trans ((View.write_emb_of_mem _ _ (Finset.mem_univ _)).trans ?_)
  show acc part (10 + k.val) c ((srcG c k).view.emb _) = _
  unfold CB
  rw [show (srcG c k).view.emb _ = _ from emb_row1s (View.whole cc1_stg1_0) _ _ _ (off13_eq c k) (by
    have := rcvOff_add_le (10 + k.val) (xr c); rw [show rcvLen (10 + k.val) = 1 from if_neg (by unfold Intra; omega)] at this; omega) _ _]
  exact St_ix part (by omega : 10 + k.val = 7 + (i 0).val) (xl_xr c).symm (show rcvOff (10 + k.val) (xr c) = rcvOff (7 + (i 0).val) (xr c) by
    rw [show 7 + (i 0).val = 10 + k.val by omega]) rfl rfl

end Landing

end Cert.AllReduce
-- ==== Proof.Update.lean ====
/-
  What each step's update leaves in the accumulator: the rows received, read from the landing slot, are added to the own rows
  (steps below 10) or replace them; every other row stays. That is `acc` at the next step.
-/
module

public import proofs.«01_k».proof.Proof.Views

@[expose] public section

set_option maxRecDepth 16384

noncomputable section

namespace Cert.AllReduce

open Cert.KernelIdeal Cert.KernelIdeal.Gen
open Idealize.ShloMosaic
open Idealize.ShloMosaic.TcCoe
open Idealize.ShloMosaic.ValueIdx (ix1 ix2 ix3 ix4 eq_ix1 eq_ix2 eq_ix3 eq_ix4)

variable {F : FTy → Type} [FloatOps F] (part : Dev nD → AllBuf F)

theorem acc_add {n : ℕ} (hn : n < 10) (c : Dev nD) (i : S32x32x1024.Idx) (hi : i ∈ outSet n c) :
    acc part (n + 1) c i = FloatOps.addf (acc part n c i) (acc part n (src n c) i) := by
  have h : rcvRow n c (i 0).val := (Finset.mem_filter.mp hi).2
  show St _ part (n + 1) c i = _
  rw [St, if_pos h, if_pos hn]
theorem acc_copy {n : ℕ} (hn : 10 ≤ n) (c : Dev nD) (i : S32x32x1024.Idx) (hi : i ∈ outSet n c) :
    acc part (n + 1) c i = acc part n (src n c) i := by
  have h : rcvRow n c (i 0).val := (Finset.mem_filter.mp hi).2
  show St _ part (n + 1) c i = _
  rw [St, if_pos h, if_neg (by omega)]
theorem acc_off {n : ℕ} (c : Dev nD) (i : S32x32x1024.Idx) (hi : i ∉ outSet n c) : acc part (n + 1) c i = acc part n c i := by
  have h : ¬ rcvRow n c (i 0).val := fun h => hi (Finset.mem_filter.mpr ⟨Finset.mem_univ _, h⟩)
  show St _ part (n + 1) c i = _
  rw [St, if_neg h]

theorem srcA_eq (k : Fin k1_t1_loop.trips) (c : Dev nD) : src k.val c = il c := if_pos (Or.inl (lt7A k))
theorem srcR_eq (k : Fin k1_t2_loop.trips) (c : Dev nD) : src (7 + k.val) c = xl c := if_neg (by have := lt3R k; unfold Intra; omega)
theorem srcG_eq (k : Fin k1_t3_loop.trips) (c : Dev nD) : src (10 + k.val) c = xl c := if_neg (by have := lt3G k; unfold Intra; omega)
theorem srcC_eq (k : Fin k1_t4_loop.trips) (c : Dev nD) : src (13 + k.val) c = il c := if_pos (Or.inr (by omega))

/-! ## The stored values at an index -/

theorem pay5_apply (v : Vec F S4x32x1024 .f32) (w : Vec F S1x4x32x1024 .f32) (a : Fin 4) (b : Fin 32) (d : Fin 1024) :
    k1_pay5 v w (ix3 a b d) = FloatOps.addf (v (ix3 a b d)) (w (ix4 (0 : Fin 1) a b d)) := by
  show FloatOps.addf (shapeCast S4x32x1024 v _ (ix3 a b d)) (shapeCast S4x32x1024 w _ (ix3 a b d)) = _
  rw [shapeCast_self, ValueIdx.shapeCast_1abc_abc_apply]
theorem pay3_apply (w : Vec F S1x4x32x1024 .f32) (a : Fin 4) (b : Fin 32) (d : Fin 1024) :
    k1_pay3 w (ix3 a b d) = w (ix4 (0 : Fin 1) a b d) := by
  show shapeCast S4x32x1024 w _ (ix3 a b d) = _
  rw [ValueIdx.shapeCast_1abc_abc_apply]
theorem pay1_apply (v w : Vec F S1x32x1024 .f32) (u : Fin 1) (b : Fin 32) (d : Fin 1024) :
    k1_pay1 v w (ix3 u b d) = FloatOps.addf (v (ix3 (0 : Fin 1) b d)) (w (ix3 (0 : Fin 1) b d)) := by
  show shapeCast S1x32x1024 (addf (shapeCast S32x1024 v _) (shapeCast S32x1024 w _)) _ (ix3 u b d) = _
  rw [ValueIdx.shapeCast_ab_1ab_apply]
  show FloatOps.addf (shapeCast S32x1024 v _ (ix2 b d)) (shapeCast S32x1024 w _ (ix2 b d)) = _
  rw [ValueIdx.shapeCast_1ab_ab_apply, ValueIdx.shapeCast_1ab_ab_apply]
theorem pay2_apply (w : Vec F S1x32x1024 .f32) (u : Fin 1) (b : Fin 32) (d : Fin 1024) :
    k1_pay2 w (ix3 u b d) = w (ix3 (0 : Fin 1) b d) := by
  show shapeCast S1x32x1024 (shapeCast S32x1024 w _) _ (ix3 u b d) = _
  rw [ValueIdx.shapeCast_ab_1ab_apply, ValueIdx.shapeCast_1ab_ab_apply]
theorem pay4_eq (v : Vec F S32x32x1024 .f32) : k1_pay4 v = v := shapeCast_self _ _

/-! ## The rectangles of the updates -/

abbrev rectA (c : Dev nD) (k : Fin k1_t1_loop.trips) : Rect S32x32x1024 := Rect.unit (s := S32x32x1024) (k1_off4 c k) S4x32x1024.size (k1_off4_inb c k)
abbrev rectR (c : Dev nD) (k : Fin k1_t2_loop.trips) : Rect S32x32x1024 := Rect.unit (s := S32x32x1024) (k1_off9 c k) S1x32x1024.size (k1_off9_inb c k)
abbrev rectG (c : Dev nD) (k : Fin k1_t3_loop.trips) : Rect S32x32x1024 := Rect.unit (s := S32x32x1024) (k1_off15 c k) S1x32x1024.size (k1_off15_inb c k)
abbrev rectC (c : Dev nD) (k : Fin k1_t4_loop.trips) : Rect S32x32x1024 := Rect.unit (s := S32x32x1024) (k1_off20 c k) S4x32x1024.size (k1_off20_inb c k)
abbrev slotA (k : Fin k1_t1_loop.trips) : Rect S7x4x32x1024 := Rect.unit (s := S7x4x32x1024) (k1_off5 k) S1x4x32x1024.size (k1_off5_inb k)
abbrev slotR (k : Fin k1_t2_loop.trips) : Rect S6x32x1024 := Rect.unit (s := S6x32x1024) (k1_off10 k) S1x32x1024.size (k1_off10_inb k)
abbrev slotG (k : Fin k1_t3_loop.trips) : Rect S6x32x1024 := Rect.unit (s := S6x32x1024) (k1_off14 k) S1x32x1024.size (k1_off14_inb k)
abbrev slotC (k : Fin k1_t4_loop.trips) : Rect S7x4x32x1024 := Rect.unit (s := S7x4x32x1024) (k1_off19 k) S1x4x32x1024.size (k1_off19_inb k)

theorem set_rectA (c : Dev nD) (k : Fin k1_t1_loop.trips) : (rectA c k).set = outSet k.val c := set_row4 _ _ _ _ (off4_eq c k) (Or.inl (lt7A k))
theorem set_rectR (c : Dev nD) (k : Fin k1_t2_loop.trips) : (rectR c k).set = outSet (7 + k.val) c :=
  set_row1 _ _ _ _ (off9_eq c k) (by have := lt3R k; unfold Intra; omega)
theorem set_rectG (c : Dev nD) (k : Fin k1_t3_loop.trips) : (rectG c k).set = outSet (10 + k.val) c :=
  set_row1 _ _ _ _ (off15_eq c k) (by have := lt3G k; unfold Intra; omega)
theorem set_rectC (c : Dev nD) (k : Fin k1_t4_loop.trips) : (rectC c k).set = outSet (13 + k.val) c :=
  set_row4 _ _ _ _ (off20_eq c k) (Or.inr (by omega))

/-- An element of a block of four rows, as the index of the block it is under. -/
theorem emb_of_mem4 (off : Fin 3 → ℕ) (inb : ∀ a, off a + S4x32x1024.size a ≤ S32x32x1024.size a) (n : ℕ) (c : Dev nD)
    (h : off = ![rcvOff n c, 0, 0]) (hn : Intra n) (i : S32x32x1024.Idx) (hi : i ∈ outSet n c) :
    ∃ a : Fin 4, rcvOff n c + a.val = (i 0).val ∧
      ((View.whole cc1_stg1_0).slice (Rect.unit (s := S32x32x1024) off S4x32x1024.size inb)).emb (ix3 (n0 := 4) (n1 := 32) (n2 := 1024) a (i 1) (i 2)) = i := by
  have hr : rcvOff n c ≤ (i 0).val ∧ (i 0).val < rcvOff n c + rcvLen n := (Finset.mem_filter.mp hi).2
  rw [show rcvLen n = 4 from if_pos hn] at hr
  have hb := rcvOff_add_le n c
  rw [show rcvLen n = 4 from if_pos hn] at hb
  refine ⟨⟨(i 0).val - rcvOff n c, by omega⟩, by show rcvOff n c + ((i 0).val - rcvOff n c) = _; omega, ?_⟩
  refine (emb_row4 (View.whole cc1_stg1_0) off inb _ h hb _).trans ?_
  exact Shape.idx3_ext (show rcvOff n c + ((i 0).val - rcvOff n c) = (i 0).val by omega) rfl rfl

/-- The same for one row. -/
theorem emb_of_mem1 (off : Fin 3 → ℕ) (inb : ∀ a, off a + S1x32x1024.size a ≤ S32x32x1024.size a) (n : ℕ) (c : Dev nD)
    (h : off = ![rcvOff n c, 0, 0]) (hn : ¬ Intra n) (i : S32x32x1024.Idx) (hi : i ∈ outSet n c) :
    rcvOff n c = (i 0).val ∧
      ∀ u : Fin 1, ((View.whole cc1_stg1_0).slice (Rect.unit (s := S32x32x1024) off S1x32x1024.size inb)).emb (ix3 (n0 := 1) (n1 := 32) (n2 := 1024) u (i 1) (i 2)) = i := by
  have hr : rcvOff n c ≤ (i 0).val ∧ (i 0).val < rcvOff n c + rcvLen n := (Finset.mem_filter.mp hi).2
  rw [show rcvLen n = 1 from if_neg hn] at hr
  have hb := rcvOff_add_le n c
  rw [show rcvLen n = 1 from if_neg hn] at hb
  refine ⟨by omega, fun u => ?_⟩
  refine (emb_row1 (View.whole cc1_stg1_0) off inb _ h (by omega) _).trans ?_
  exact Shape.idx3_ext (show rcvOff n c = (i 0).val by omega) rfl rfl

/-! ## The updates -/

theorem updA (c : Dev nD) (k : Fin k1_t1_loop.trips) :
    (outM.access (rectA c k)).write (Elt F) (acc part k.val c)
        (k1_pay5 ((outM.access (rectA c k)).read (Elt F) (acc part k.val c)) ((aM.access (slotA k)).read (Elt F) (CA part c))) Finset.univ
      = acc part (k.val + 1) c := by
  funext i
  by_cases hi : i ∈ outSet k.val c
  · obtain ⟨a, ha, ei⟩ := emb_of_mem4 _ (k1_off4_inb c k) _ _ (off4_eq c k) (Or.inl (lt7A k)) i hi
    refine (congrArg ((outM.access (rectA c k)).write (Elt F) (acc part k.val c)
      (k1_pay5 ((outM.access (rectA c k)).read (Elt F) (acc part k.val c)) ((aM.access (slotA k)).read (Elt F) (CA part c))) Finset.univ) ei.symm).trans ((View.write_emb_of_mem _ _ (Finset.mem_univ _)).trans ?_)
    refine (pay5_apply _ _ a (i 1) (i 2)).trans ?_
    rw [acc_add part (by have := lt7A k; omega) c i hi]
    refine congrArg₂ _ ?_ ?_
    · exact congrArg (acc part k.val c) ei
    · refine (congrArg (CA part c) (emb_slot7 (View.whole cc1_scratch0) _ _ k.val (k1_off5_eq k) (lt7A k) _)).trans ?_
      exact St_ix part rfl (srcA_eq k c).symm ha rfl rfl
  · rw [acc_off part c i hi]
    refine View.write_of_not_mem _ _ _ ?_
    intro h
    exact hi (by rw [← set_rectA, ← View.set_slice_whole cc1_stg1_0]; exact h)

theorem updC (c : Dev nD) (k : Fin k1_t4_loop.trips) :
    (outM.access (rectC c k)).write (Elt F) (acc part (13 + k.val) c) (k1_pay3 ((cM.access (slotC k)).read (Elt F) (CC part c))) Finset.univ
      = acc part (13 + k.val + 1) c := by
  funext i
  by_cases hi : i ∈ outSet (13 + k.val) c
  · obtain ⟨a, ha, ei⟩ := emb_of_mem4 _ (k1_off20_inb c k) _ _ (off20_eq c k) (Or.inr (by omega)) i hi
    refine (congrArg ((outM.access (rectC c k)).write (Elt F) (acc part (13 + k.val) c)
      (k1_pay3 ((cM.access (slotC k)).read (Elt F) (CC part c))) Finset.univ) ei.symm).trans ((View.write_emb_of_mem _ _ (Finset.mem_univ _)).trans ?_)
    refine (pay3_apply (F := F) ((cM.access (slotC k)).read (Elt F) (CC part c)) a (i 1) (i 2)).trans ?_
    rw [acc_copy part (by omega) c i hi]
    refine (congrArg (CC part c) (emb_slot7 (View.whole cc1_scratch2) _ _ k.val (k1_off19_eq k) (lt7C k) _)).trans ?_
    exact St_ix part rfl (srcC_eq k c).symm ha rfl rfl
  · rw [acc_off part c i hi]
    refine View.write_of_not_mem _ _ _ ?_
    intro h
    exact hi (by rw [← set_rectC, ← View.set_slice_whole cc1_stg1_0]; exact h)

theorem updR (c : Dev nD) (k : Fin k1_t2_loop.trips) :
    (outM.access (rectR c k)).write (Elt F) (acc part (7 + k.val) c)
        (k1_pay1 ((outM.access (rectR c k)).read (Elt F) (acc part (7 + k.val) c)) ((bM.access (slotR k)).read (Elt F) (CB part c))) Finset.univ
      = acc part (7 + k.val + 1) c := by
  have hl := lt3R k
  funext i
  by_cases hi : i ∈ outSet (7 + k.val) c
  · obtain ⟨ha, ei⟩ := emb_of_mem1 _ (k1_off9_inb c k) _ _ (off9_eq c k) (by unfold Intra; omega) i hi
    refine (congrArg ((outM.access (rectR c k)).write (Elt F) (acc part (7 + k.val) c)
      (k1_pay1 ((outM.access (rectR c k)).read (Elt F) (acc part (7 + k.val) c)) ((bM.access (slotR k)).read (Elt F) (CB part c))) Finset.univ) (ei 0).symm).trans ((View.write_emb_of_mem _ _ (Finset.mem_univ _)).trans ?_)
    refine (pay1_apply (F := F) ((outM.access (rectR c k)).read (Elt F) (acc part (7 + k.val) c)) ((bM.access (slotR k)).read (Elt F) (CB part c)) 0 (i 1) (i 2)).trans ?_
    rw [acc_add part (by omega) c i hi]
    refine congrArg₂ _ ?_ ?_
    · exact congrArg (acc part (7 + k.val) c) (ei 0)
    · refine (congrArg (CB part c) (emb_slot6 (View.whole cc1_scratch1) _ _ k.val (k1_off10_eq k) (by omega) _)).trans ?_
      exact St_ix part rfl (srcR_eq k c).symm ha rfl rfl
  · rw [acc_off part c i hi]
    refine View.write_of_not_mem _ _ _ ?_
    intro h
    exact hi (by rw [← set_rectR, ← View.set_slice_whole cc1_stg1_0]; exact h)

theorem updG (c : Dev nD) (k : Fin k1_t3_loop.trips) :
    (outM.access (rectG c k)).write (Elt F) (acc part (10 + k.val) c) (k1_pay2 ((bM.access (slotG k)).read (Elt F) (CB part c))) Finset.univ
      = acc part (10 + k.val + 1) c := by
  have hl := lt3G k
  funext i
  by_cases hi : i ∈ outSet (10 + k.val) c
  · obtain ⟨ha, ei⟩ := emb_of_mem1 _ (k1_off15_inb c k) _ _ (off15_eq c k) (by unfold Intra; omega) i hi
    refine (congrArg ((outM.access (rectG c k)).write (Elt F) (acc part (10 + k.val) c)
      (k1_pay2 ((bM.access (slotG k)).read (Elt F) (CB part c))) Finset.univ) (ei 0).symm).trans ((View.write_emb_of_mem _ _ (Finset.mem_univ _)).trans ?_)
    refine (pay2_apply (F := F) ((bM.access (slotG k)).read (Elt F) (CB part c)) 0 (i 1) (i 2)).trans ?_
    rw [acc_copy part (by omega) c i hi]
    refine (congrArg (CB part c) (emb_slot6 (View.whole cc1_scratch1) _ _ (k.val + 3) (k1_off14_eq k) (by omega) _)).trans ?_
    exact St_ix part (show 7 + (k.val + 3) = 10 + k.val by omega) (srcG_eq k c).symm
      (show rcvOff (7 + (k.val + 3)) c = _ by rw [show 7 + (k.val + 3) = 10 + k.val by omega]; exact ha) rfl rfl
  · rw [acc_off part c i hi]
    refine View.write_of_not_mem _ _ _ ?_
    intro h
    exact hi (by rw [← set_rectG, ← View.set_slice_whole cc1_stg1_0]; exact h)

end Cert.AllReduce
-- ==== Proof.Step.lean ====
/-
  One step of the ring, up to the landing: the message is sent, the wait for its send gives the rows sent back, the wait for
  the message received gives the landing slot filled.
-/
module

public import proofs.«01_k».proof.Proof.Update

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (part : Dev nD → AllBuf F)

local notation "𝕄" => MT nD τ sig Unit (Elt F) ℕ UU ℕ

abbrev 𝒱₀ : Variants := Variants.none

/-- The invariants step `n` opens: the own send and receive cell, the receive cell written to. -/
def stepInvs (K : GSem nD τ sig → ℕ) (n : Fin 20) (c : Dev nD) : sProp 𝕄 :=
  iprop(cellInv ER (ringRd part) (K (sndCell c n)) (sndCell c n) ∗ cellInv ER (ringRd part) (K (rcvCell c n)) (rcvCell c n)
    ∗ cellInv ER (ringRd part) (K (rcvCell (tgt n.val c) n)) (rcvCell (tgt n.val c) n))
instance stepInvs_persistent (K : GSem nD τ sig → ℕ) (n : Fin 20) (c : Dev nD) : BI.Persistent (stepInvs part K n c) := by
  unfold stepInvs; infer_instance

/-- What step `n` of device `c` starts from, -/
def todo (K : GSem nD τ sig → ℕ) (n : Fin 20) (c : Dev nD) : sProp 𝕄 :=
  iprop(stepInvs part K n c ∗ reached ER (sndCell c n) 0 ∗ reached ER (rcvCell (tgt n.val c) n) 0
    ∗ atPos ER (sndCell c n) 0 ∅ 0 ∗ atPos ER (rcvCell c n) 0 ∅ 0
    ∗ dutyTok ER (sndCell c n) 0 0 ∗ dutyTok ER (rcvCell (tgt n.val c) n) 0 0
    ∗ cred (tallyAt (rcvCell c n) () (amt n.val)) ∗ slotAny (tgt n.val c) n.val)
/-- and what it leaves. -/
def spent (K : GSem nD τ sig → ℕ) (n : Fin 20) (c : Dev nD) : sProp 𝕄 :=
  iprop(stepInvs part K n c ∗ atPos ER (sndCell c n) (0 + 1) ∅ 0 ∗ atPos ER (rcvCell c n) (0 + 1) ∅ 0)
def done (K : GSem nD τ sig → ℕ) (n : Fin 20) (c : Dev nD) : sProp 𝕄 :=
  iprop(spent part K n c ∗ slotAt part c n.val)

theorem outOn_split (c : Dev nD) (I : Finset S32x32x1024.Idx) (f : AllBuf F) :
    (outOn c Finset.univ f : sProp 𝕄) ⊣⊢ iprop(outOn c I f ∗ outOn c (Finset.univ \ I) f) :=
  pointsTo_split_subset (Finset.subset_univ I)

/-- The send of a step and its two waits. The hypotheses say which rows, slot and semaphores the program's operands name. -/
theorem wp_comm (K : GSem nD τ sig → ℕ) (n : Fin 20) (c d : Dev nD) (hd : d = tgt n.val c) {s : Shape}
    {src dst : Memref sig .tc .vmem s .f32} {s₁ s₂ : DmaSem sig} (h₁ : s₁ = sndS n) (h₂ : s₂ = rcvS n)
    {hsc : (dst : Memref sig (Dev.tc d : Thread nD τ).2.kind .vmem s .f32).view.ref.isScScratch = false}
    {x₁ y₂ : src.view.WordExact} {x₂ y₁ : dst.view.WordExact} {z₁ : src.view.WordExact} {z₂ : dst.view.WordExact}
    {ht : DmaTarget.Typed .vmem (.dma s₂) (.remote (Dev.tc d : Thread nD τ) (dst : Memref sig .tc .vmem s .f32) (.dma s₁) hsc)}
    (fs : Buf (Elt F) (src.view.loc (c : Thread nD τ)))
    (hc₁ : src.view.dmaCredit = amt n.val) (hc₂ : dst.view.dmaCredit = amt n.val)
    (hsrc : (outOn c (outSet n.val (tgt n.val c)) (acc part n.val c) : sProp 𝕄) = (src.view.loc (c : Thread nD τ) ↦[src.view.set]{fullShare} fs))
    (hslot : (slotAny (tgt n.val c) n.val : sProp 𝕄) ⊢ iprop(∃ fd, dst.view.loc (tgt n.val c : Thread nD τ) ↦[dst.view.set]{fullShare} fd))
    (hland : ∀ fd, (dst.view.loc (tgt n.val c : Thread nD τ) ↦[dst.view.set]{fullShare} (dst.view.write (Elt F) fd (src.view.read (Elt F) fs) Finset.univ) : sProp 𝕄)
      ⊢ slotAt part (tgt n.val c) n.val)
    {α : Type} {Q : α → sProp 𝕄} {k : PUnit → Prog (TpuEff nD τ sig (Elt F) Λ₀ .tc) α} (W : Waits sig Unit) :
    iprop(todo part K n c ∗ outOn c Finset.univ (acc part n.val c) ∗ levAts L lv ∗ owes (c : Thread nD τ) (Owe n.val c) W)
      ⊢ iprop(((spent part K n c ∗ slotAt part c n.val ∗ outOn c Finset.univ (acc part n.val c) ∗ ∃ W', owes (c : Thread nD τ) (Owe (n.val + 1) c) W')
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc d : Thread nD τ) dst (.dma s₁) hsc) (.dma s₂) x₁ x₂ ht) fun _ =>
              .op (.waitDma2 s₁ dst src y₁ y₂) fun _ => .op (.waitDma2 s₂ src dst z₁ z₂) k) Q) := by
  subst hd h₁ h₂
  unfold todo spent stepInvs
  iintro ⟨⟨⟨#HIs, #HIr, #HIt⟩, #Hrs, #Hrt, HaS, HaR, HtS, HtT, Hcr, Hsl⟩, Hout, #Hlev, HO⟩ Hk
  ihave Hsp := (outOn_split c (outSet n.val (tgt n.val c)) (acc part n.val c)).1 $$ Hout
  icases Hsp with ⟨Hsrc, Hrest⟩
  ihave Hsrc := (Entails.of_eq hsrc) $$ Hsrc
  ihave Hsl := hslot $$ Hsl
  icases Hsl with ⟨%fd, Hsl⟩
  iapply (Rounds.wp_send_pointsTo 𝒱₀ ER (ringRd part) (c : Thread nD τ) none (c' := (tgt n.val c : Thread nD τ)) (src := src) (dst := dst)
      (sS := .dma (sndS n)) (sem := .dma (rcvS n)) (q := fullShare) (fs := fs) (κ₁ := K (sndCell c n)) (κ₂ := K (rcvCell (tgt n.val c) n))
      (r₁ := 0) (r₂ := 0) (d₁ := 0) (d₂ := 0) (fd := fd)
      (by rw [duties_snd]; exact Finset.mem_singleton_self _) (by rw [duties_rcv]; exact Finset.mem_singleton_self _)
      () () (amt n.val) hc₂ (amount_snd part c n 0) (amount_rcv part (tgt n.val c) n 0) (Owe (n.val + 1) c) (Owe_step n c) (W := W)
      (by rw [payload_snd]; exact Entails.of_eq hsrc.symm)
      (by rw [payload_rcv]; exact hland fd)) $$ [Hsrc Hsl HO HtS HtT]
  · isplitr; · iexact HIs
    isplitr; · iexact HIt
    isplitl [Hsrc]; · iexact Hsrc
    isplitl [Hsl]; · iexact Hsl
    isplitl [HO]; · iexact HO
    isplitl [HtS]; · iexact HtS
    isplitr; · iexact Hrs
    isplitl [HtT]; · iexact HtT
    iexact Hrt
  iintro ⟨HcS, HO⟩
  iapply (Rounds.wp_wait_rest_token 𝒱₀ ER (ringRd part) (c : Thread nD τ) none (κ := K (sndCell c n))
      (wpE_waitDma2_eq 𝒱₀ (c : Thread nD τ) none Set.univ) (Set.mem_univ _) () (O := Owe (n.val + 1) c) (W := W) (R := 0) (m := 0) (T := ∅)
      ((Nat.zero_add _).trans (hc₁.trans (expect_snd part c n).symm))) $$ [HcS HO HaS]
  · isplitr; · iexact HIs
    isplitl [HcS]; · rw [hc₁]; iexact HcS
    isplitl [HO]; · iexact HO
    isplitr; · iapply (mayWait c _ (n.val + 1) 0 (le_of_eq (lv_snd c n)) (by omega)); iexact Hlev
    iexact HaS
  iintro ⟨HO, HaS, -, Hpay⟩
  ihave Hsrc := (Entails.of_eq (rest_snd part c n)) $$ Hpay
  unfold sndPay
  iapply (Rounds.wp_wait_rest_token 𝒱₀ ER (ringRd part) (c : Thread nD τ) none (κ := K (rcvCell c n))
      (wpE_waitDma2_eq 𝒱₀ (c : Thread nD τ) none Set.univ) (Set.mem_univ _) () (O := Owe (n.val + 1) c)
      (W := insert (SemLoc.dma (sndS n), ()) W) (R := 0) (m := 0) (T := ∅)
      ((Nat.zero_add _).trans (hc₂.trans (expect_rcv part c n).symm))) $$ [Hcr HO HaR]
  · isplitr; · iexact HIr
    isplitl [Hcr]; · rw [hc₂]; iexact Hcr
    isplitl [HO]; · iexact HO
    isplitr; · iapply (mayWait c _ (n.val + 1) (n.val + 2) (le_of_eq (lv_rcv c n)) (by omega)); iexact Hlev
    iexact HaR
  iintro ⟨HO, HaR, -, Hpay⟩
  ihave Hsl := (Entails.of_eq (rest_rcv part c n)) $$ Hpay
  unfold rcvPay
  iapply Hk
  isplitl [HaS HaR]
  · isplitr
    · isplitr; · iexact HIs
      isplitr; · iexact HIr
      iexact HIt
    isplitl [HaS] <;> iassumption
  isplitl [Hsl]; · iexact Hsl
  isplitl [Hsrc Hrest]
  · iapply (outOn_split c (outSet n.val (tgt n.val c)) (acc part n.val c)).2
    isplitl [Hsrc] <;> iassumption
  iexists _; iexact HO

end Cert.AllReduce
-- ==== Proof.Slots.lean ====
/-
  The four loops' operands, in the form a step (`wp_comm`) asks for: the rows sent, the landing slot before and after.
-/
module

public import proofs.«01_k».proof.Proof.Step

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (part : Dev nD → AllBuf F)

local notation "𝕄" => MT nD τ sig Unit (Elt F) ℕ UU ℕ

omit [FloatOps F] in
theorem slotAny_A (c : Dev nD) (k : ℕ) (h : k < 7) : (slotAny c k : sProp 𝕄) = iprop(∃ f, aOn c (slot7 k) f) := if_pos h
omit [FloatOps F] in
theorem slotAny_B (c : Dev nD) (n k : ℕ) (e : n = 7 + k) (h : k < 6) : (slotAny c n : sProp 𝕄) = iprop(∃ f, bOn c (slot6 k) f) := by
  subst e; unfold slotAny; rw [if_neg (by omega), if_pos (by omega), show 7 + k - 7 = k by omega]
omit [FloatOps F] in
theorem slotAny_C (c : Dev nD) (n k : ℕ) (e : n = 13 + k) : (slotAny c n : sProp 𝕄) = iprop(∃ f, cOn c (slot7 k) f) := by
  subst e; unfold slotAny; rw [if_neg (by omega), if_neg (by omega), show 13 + k - 13 = k by omega]
theorem slotAt_A (c : Dev nD) (k : ℕ) (h : k < 7) : (slotAt part c k : sProp 𝕄) = aOn c (slot7 k) (CA part c) := if_pos h
theorem slotAt_B (c : Dev nD) (n k : ℕ) (e : n = 7 + k) (h : k < 6) : (slotAt part c n : sProp 𝕄) = bOn c (slot6 k) (CB part c) := by
  subst e; unfold slotAt; rw [if_neg (by omega), if_pos (by omega), show 7 + k - 7 = k by omega]
theorem slotAt_C (c : Dev nD) (n k : ℕ) (e : n = 13 + k) : (slotAt part c n : sProp 𝕄) = cOn c (slot7 k) (CC part c) := by
  subst e; unfold slotAt; rw [if_neg (by omega), if_neg (by omega), show 13 + k - 13 = k by omega]

/-! ## What a message credits -/

theorem amtA (k : Fin k1_t1_loop.trips) : amt (nA k).val = NA := if_pos (Or.inl (lt7A k))
theorem amtR (k : Fin k1_t2_loop.trips) : amt (nR k).val = NB := if_neg (by have := lt3R k; show ¬ Intra (7 + k.val); unfold Intra; omega)
theorem amtG (k : Fin k1_t3_loop.trips) : amt (nG k).val = NB := if_neg (by have := lt3G k; show ¬ Intra (10 + k.val); unfold Intra; omega)
theorem amtC (k : Fin k1_t4_loop.trips) : amt (nC k).val = NA := if_pos (Or.inr (by show 13 ≤ 13 + k.val; omega))

theorem crSrcA (c : Dev nD) (k : Fin k1_t1_loop.trips) : (srcA c k).view.dmaCredit = amt (nA k).val := (amtA k).symm
theorem crDstA (k : Fin k1_t1_loop.trips) : (dstA k).view.dmaCredit = amt (nA k).val := (amtA k).symm
theorem crSrcR (c : Dev nD) (k : Fin k1_t2_loop.trips) : (srcR c k).view.dmaCredit = amt (nR k).val := (amtR k).symm
theorem crDstR (k : Fin k1_t2_loop.trips) : (dstR k).view.dmaCredit = amt (nR k).val := (amtR k).symm
theorem crSrcG (c : Dev nD) (k : Fin k1_t3_loop.trips) : (srcG c k).view.dmaCredit = amt (nG k).val := (amtG k).symm
theorem crDstG (k : Fin k1_t3_loop.trips) : (dstG k).view.dmaCredit = amt (nG k).val := (amtG k).symm
theorem crSrcC (c : Dev nD) (k : Fin k1_t4_loop.trips) : (srcC c k).view.dmaCredit = amt (nC k).val := (amtC k).symm
theorem crDstC (k : Fin k1_t4_loop.trips) : (dstC k).view.dmaCredit = amt (nC k).val := (amtC k).symm

/-! ## The rows sent -/

theorem ptsSrcA (c : Dev nD) (k : Fin k1_t1_loop.trips) (f : AllBuf F) :
    (outOn c (outSet (nA k).val (tgt (nA k).val c)) f : sProp 𝕄) = ((srcA c k).view.loc (c : Thread nD τ) ↦[(srcA c k).view.set]{fullShare} f) := by
  rw [set_srcA]
theorem ptsSrcR (c : Dev nD) (k : Fin k1_t2_loop.trips) (f : AllBuf F) :
    (outOn c (outSet (nR k).val (tgt (nR k).val c)) f : sProp 𝕄) = ((srcR c k).view.loc (c : Thread nD τ) ↦[(srcR c k).view.set]{fullShare} f) := by
  rw [set_srcR]
theorem ptsSrcG (c : Dev nD) (k : Fin k1_t3_loop.trips) (f : AllBuf F) :
    (outOn c (outSet (nG k).val (tgt (nG k).val c)) f : sProp 𝕄) = ((srcG c k).view.loc (c : Thread nD τ) ↦[(srcG c k).view.set]{fullShare} f) := by
  rw [set_srcG]
theorem ptsSrcC (c : Dev nD) (k : Fin k1_t4_loop.trips) (f : AllBuf F) :
    (outOn c (outSet (nC k).val (tgt (nC k).val c)) f : sProp 𝕄) = ((srcC c k).view.loc (c : Thread nD τ) ↦[(srcC c k).view.set]{fullShare} f) := by
  rw [set_srcC]

/-! ## The landing slot before the message, and after -/

theorem ptsDstA (c : Dev nD) (k : Fin k1_t1_loop.trips) :
    (slotAny c (nA k).val : sProp 𝕄) ⊢ iprop(∃ fd, (dstA k).view.loc (c : Thread nD τ) ↦[(dstA k).view.set]{fullShare} fd) := by
  rw [slotAny_A c _ (lt7A k), set_dstA]; exact Entails.refl _
theorem ptsDstR (c : Dev nD) (k : Fin k1_t2_loop.trips) :
    (slotAny c (nR k).val : sProp 𝕄) ⊢ iprop(∃ fd, (dstR k).view.loc (c : Thread nD τ) ↦[(dstR k).view.set]{fullShare} fd) := by
  rw [slotAny_B c _ k.val rfl (by have := lt3R k; omega), set_dstR]; exact Entails.refl _
theorem ptsDstG (c : Dev nD) (k : Fin k1_t3_loop.trips) :
    (slotAny c (nG k).val : sProp 𝕄) ⊢ iprop(∃ fd, (dstG k).view.loc (c : Thread nD τ) ↦[(dstG k).view.set]{fullShare} fd) := by
  rw [slotAny_B c _ (k.val + 3) (show 10 + k.val = _ by omega) (by have := lt3G k; omega), set_dstG]; exact Entails.refl _
theorem ptsDstC (c : Dev nD) (k : Fin k1_t4_loop.trips) :
    (slotAny c (nC k).val : sProp 𝕄) ⊢ iprop(∃ fd, (dstC k).view.loc (c : Thread nD τ) ↦[(dstC k).view.set]{fullShare} fd) := by
  rw [slotAny_C c _ k.val rfl, set_dstC]; exact Entails.refl _

theorem ptsLandA (c : Dev nD) (k : Fin k1_t1_loop.trips) (fd : S7x4x32x1024.Idx → Elt F .f32) :
    ((dstA k).view.loc (tgt (nA k).val c : Thread nD τ) ↦[(dstA k).view.set]{fullShare}
        ((dstA k).view.write (Elt F) fd ((srcA c k).view.read (Elt F) (acc part (nA k).val c)) Finset.univ) : sProp 𝕄)
      ⊢ slotAt part (tgt (nA k).val c) (nA k).val := by
  rw [slotAt_A part _ _ (lt7A k), set_dstA]
  exact Entails.of_eq (pointsTo_congr fun i hi => landA part c k fd i hi)
theorem ptsLandR (c : Dev nD) (k : Fin k1_t2_loop.trips) (fd : S6x32x1024.Idx → Elt F .f32) :
    ((dstR k).view.loc (tgt (nR k).val c : Thread nD τ) ↦[(dstR k).view.set]{fullShare}
        ((dstR k).view.write (Elt F) fd ((srcR c k).view.read (Elt F) (acc part (nR k).val c)) Finset.univ) : sProp 𝕄)
      ⊢ slotAt part (tgt (nR k).val c) (nR k).val := by
  rw [slotAt_B part _ _ k.val rfl (by have := lt3R k; omega), set_dstR]
  exact Entails.of_eq (pointsTo_congr fun i hi => landR part c k fd i hi)
theorem ptsLandG (c : Dev nD) (k : Fin k1_t3_loop.trips) (fd : S6x32x1024.Idx → Elt F .f32) :
    ((dstG k).view.loc (tgt (nG k).val c : Thread nD τ) ↦[(dstG k).view.set]{fullShare}
        ((dstG k).view.write (Elt F) fd ((srcG c k).view.read (Elt F) (acc part (nG k).val c)) Finset.univ) : sProp 𝕄)
      ⊢ slotAt part (tgt (nG k).val c) (nG k).val := by
  rw [slotAt_B part _ _ (k.val + 3) (show 10 + k.val = _ by omega) (by have := lt3G k; omega), set_dstG]
  exact Entails.of_eq (pointsTo_congr fun i hi => landG part c k fd i hi)
theorem ptsLandC (c : Dev nD) (k : Fin k1_t4_loop.trips) (fd : S7x4x32x1024.Idx → Elt F .f32) :
    ((dstC k).view.loc (tgt (nC k).val c : Thread nD τ) ↦[(dstC k).view.set]{fullShare}
        ((dstC k).view.write (Elt F) fd ((srcC c k).view.read (Elt F) (acc part (nC k).val c)) Finset.univ) : sProp 𝕄)
      ⊢ slotAt part (tgt (nC k).val c) (nC k).val := by
  rw [slotAt_C part _ _ k.val rfl, set_dstC]
  exact Entails.of_eq (pointsTo_congr fun i hi => landC part c k fd i hi)

/-! ## The loop invariant -/

/-- The state of the 20 steps before step `n`. -/
def steps (K : GSem nD τ sig → ℕ) (n : ℕ) (c : Dev nD) : sProp 𝕄 :=
  bigSep Finset.univ fun j : Fin 20 => if j.val < n then done part K j c else todo part K j c

/-- Before step `n`: the accumulator at `acc n`, the receive credits owed from step `n` on, the steps below `n` done. -/
def LoopI (K : GSem nD τ sig → ℕ) (n : ℕ) (c : Dev nD) : sProp 𝕄 :=
  iprop(outOn c Finset.univ (acc part n c) ∗ levAts L lv ∗ (∃ W, owes (c : Thread nD τ) (Owe n c) W) ∗ steps part K n c)

theorem steps_open (K : GSem nD τ sig → ℕ) (n : Fin 20) (c : Dev nD) :
    steps part K n.val c ⊢ iprop(todo part K n c ∗ (done part K n c -∗ steps part K (n.val + 1) c)) := by
  unfold steps
  rw [bigSep_univ_at _ n, bigSep_univ_at (fun j : Fin 20 => if j.val < n.val + 1 then done part K j c else todo part K j c) n,
    if_neg (Nat.lt_irrefl _), if_pos (Nat.lt_succ_self _)]
  have e : (bigSep (Finset.univ.erase n) fun j : Fin 20 => if j.val < n.val + 1 then done part K j c else todo part K j c)
      = bigSep (Finset.univ.erase n) fun j : Fin 20 => if j.val < n.val then done part K j c else todo part K j c :=
    bigSep_congr fun j hj => by
      have hne : j.val ≠ n.val := fun h => (Finset.mem_erase.mp hj).1 (Fin.ext h)
      by_cases hlt : j.val < n.val
      · rw [if_pos hlt, if_pos (by omega)]
      · rw [if_neg hlt, if_neg (by omega)]
  rw [e]
  iintro ⟨Ht, Hrest⟩
  isplitl [Ht]; · iexact Ht
  iintro Hd
  isplitl [Hd] <;> iassumption

end Cert.AllReduce
-- ==== Proof.Trips.lean ====
/-
  One trip of each of the four loops keeps the loop invariant.
-/
module

public import proofs.«01_k».proof.Proof.Slots

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (part : Dev nD → AllBuf F)

local notation "𝕄" => MT nD τ sig Unit (Elt F) ℕ UU ℕ

/-! ## The slots read -/

theorem readsA (k : Fin k1_t1_loop.trips) : (aM.access (slotA k)).set = slot7 k.val :=
  (View.set_slice_whole cc1_scratch0 _).trans (set_slot7 _ _ _ (k1_off5_eq k))
theorem readsR (k : Fin k1_t2_loop.trips) : (bM.access (slotR k)).set = slot6 k.val :=
  (View.set_slice_whole cc1_scratch1 _).trans (set_slot6 _ _ _ (k1_off10_eq k))
theorem readsG (k : Fin k1_t3_loop.trips) : (bM.access (slotG k)).set = slot6 (k.val + 3) :=
  (View.set_slice_whole cc1_scratch1 _).trans (set_slot6 _ _ _ (k1_off14_eq k))
theorem readsC (k : Fin k1_t4_loop.trips) : (cM.access (slotC k)).set = slot7 k.val :=
  (View.set_slice_whole cc1_scratch2 _).trans (set_slot7 _ _ _ (k1_off19_eq k))

section Trips

variable (K : GSem nD τ sig → ℕ) (c : Dev nD)
  (v19 v29 v42 v55 v68 v71 v72 v106 : BitVec 32) (v73 : BitVec 1) (w : BitVec 32)

abbrev wpc {α : Type} (e : Prog (TpuEff nD τ sig (Elt F) Λ₀ .tc) α) (Q : α → sProp 𝕄) : sProp 𝕄 :=
  wp frame (wpE (defs₀ (F := F)) 𝒱₀ (c : Thread nD τ) none) Set.univ e Q

abbrev bodyA : Fin k1_t1_loop.trips → Unit → Prog (TpuEff nD τ sig (Elt F) Λ₀ .tc) Unit :=
  k1_t1_body inM (Memref.isWhole_whole _) outM (Memref.isWhole_whole _) aM (Memref.isWhole_whole _) bM (Memref.isWhole_whole _) cM (Memref.isWhole_whole _)
    cc1_scratch3 cc1_scratch4 cc1_scratch5 cc1_scratch6 cc1_scratch7 cc1_scratch8 c v29 v42 v55 v68 v71 v72 v73 w
abbrev bodyR : Fin k1_t2_loop.trips → Unit → Prog (TpuEff nD τ sig (Elt F) Λ₀ .tc) Unit :=
  k1_t2_body inM (Memref.isWhole_whole _) outM (Memref.isWhole_whole _) aM (Memref.isWhole_whole _) bM (Memref.isWhole_whole _) cM (Memref.isWhole_whole _)
    cc1_scratch3 cc1_scratch4 cc1_scratch5 cc1_scratch6 cc1_scratch7 cc1_scratch8 c v19 v68 v106
abbrev bodyG : Fin k1_t3_loop.trips → Unit → Prog (TpuEff nD τ sig (Elt F) Λ₀ .tc) Unit :=
  k1_t3_body inM (Memref.isWhole_whole _) outM (Memref.isWhole_whole _) aM (Memref.isWhole_whole _) bM (Memref.isWhole_whole _) cM (Memref.isWhole_whole _)
    cc1_scratch3 cc1_scratch4 cc1_scratch5 cc1_scratch6 cc1_scratch7 cc1_scratch8 c v19 v68 v106
abbrev bodyC : Fin k1_t4_loop.trips → Unit → Prog (TpuEff nD τ sig (Elt F) Λ₀ .tc) Unit :=
  k1_t4_body inM (Memref.isWhole_whole _) outM (Memref.isWhole_whole _) aM (Memref.isWhole_whole _) bM (Memref.isWhole_whole _) cM (Memref.isWhole_whole _)
    cc1_scratch3 cc1_scratch4 cc1_scratch5 cc1_scratch6 cc1_scratch7 cc1_scratch8 c v29 v42

theorem tripA (k : Fin k1_t1_loop.trips) (u : Unit) :
    LoopI part K k.val c ⊢ wpc c (bodyA c v29 v42 v55 v68 v71 v72 v73 w k u) fun _ => LoopI part K (k.val + 1) c := by
  unfold wpc bodyA k1_t1_body
  simp only [k1_part1_eq_skeleton, k1_part1_skel, Prog.lift, Prog.bind_op, Prog.bind_ret, Prog.pure_eq_ret]
  unfold LoopI
  iintro ⟨Hout, #Hlev, ⟨%W, HO⟩, Hst⟩
  ihave Ho := (steps_open part K (nA k) c) $$ Hst
  icases Ho with ⟨Htodo, Hback⟩
  iapply (wp_comm part K (nA k) c _ ((dev5_eq c).trans (tgtA k c).symm) (semA_snd k) (semA_rcv k) (src := srcA c k) (dst := dstA k)
    (acc part k.val c) (crSrcA c k) (crDstA k) (ptsSrcA c k _) (ptsDstA _ k) (ptsLandA part c k) W) $$ [Htodo Hout HO]
  · isplitl [Htodo]; · iexact Htodo
    isplitl [Hout]; · iexact Hout
    isplitr; · iexact Hlev
    iexact HO
  iintro ⟨Hsp, Hsl, Hout, ⟨%W', HO⟩⟩
  ihave Hsl := (Entails.of_eq (slotAt_A part c k.val (lt7A k))) $$ Hsl
  iapply (wp_load_rect 𝒱₀ (c : Thread nD τ) none Set.univ (m := outM) (r := rectA c k) (Finset.subset_univ _)) $$ Hout
  iintro Hout
  iapply (wp_load_rect 𝒱₀ (c : Thread nD τ) none Set.univ (m := aM) (r := slotA k) (le_of_eq (readsA k))) $$ Hsl
  iintro Hsl
  iapply (wp_load_rect 𝒱₀ (c : Thread nD τ) none Set.univ (m := outM) (r := rectA c k) (Finset.subset_univ _)) $$ Hout
  iintro Hout
  iapply (wp_store 𝒱₀ (c : Thread nD τ) none Set.univ (m := outM) (r := rectA c k) (Finset.subset_univ _)) $$ Hout
  iintro Hout
  rw [wp_ret]
  imodintro
  isplitl [Hout]
  · rw [updA part c k]; iexact Hout
  isplitr; · iexact Hlev
  isplitl [HO]; · iexists W'; iexact HO
  iapply Hback
  unfold done
  isplitl [Hsp]; · iexact Hsp
  iapply (Entails.of_eq (slotAt_A part c k.val (lt7A k)).symm) $$ Hsl

theorem tripR (k : Fin k1_t2_loop.trips) (u : Unit) :
    LoopI part K (7 + k.val) c ⊢ wpc c (bodyR c v19 v68 v106 k u) fun _ => LoopI part K (7 + k.val + 1) c := by
  unfold wpc bodyR k1_t2_body
  simp only [k1_part2_eq_skeleton, k1_part2_skel, Prog.lift, Prog.bind_op, Prog.bind_ret, Prog.pure_eq_ret]
  unfold LoopI
  iintro ⟨Hout, #Hlev, ⟨%W, HO⟩, Hst⟩
  ihave Ho := (steps_open part K (nR k) c) $$ Hst
  icases Ho with ⟨Htodo, Hback⟩
  iapply (wp_comm part K (nR k) c _ ((dev6_eq c).trans (tgtR k c).symm) (semR_snd k) (semR_rcv k) (src := srcR c k) (dst := dstR k)
    (acc part (7 + k.val) c) (crSrcR c k) (crDstR k) (ptsSrcR c k _) (ptsDstR _ k) (ptsLandR part c k) W) $$ [Htodo Hout HO]
  · isplitl [Htodo]; · iexact Htodo
    isplitl [Hout]; · iexact Hout
    isplitr; · iexact Hlev
    iexact HO
  iintro ⟨Hsp, Hsl, Hout, ⟨%W', HO⟩⟩
  ihave Hsl := (Entails.of_eq (slotAt_B part c (nR k).val k.val rfl (by have := lt3R k; omega))) $$ Hsl
  iapply (wp_load_rect 𝒱₀ (c : Thread nD τ) none Set.univ (m := outM) (r := rectR c k) (Finset.subset_univ _)) $$ Hout
  iintro Hout
  iapply (wp_load_rect 𝒱₀ (c : Thread nD τ) none Set.univ (m := bM) (r := slotR k) (le_of_eq (readsR k))) $$ Hsl
  iintro Hsl
  iapply (wp_load_rect 𝒱₀ (c : Thread nD τ) none Set.univ (m := outM) (r := rectR c k) (Finset.subset_univ _)) $$ Hout
  iintro Hout
  iapply (wp_store 𝒱₀ (c : Thread nD τ) none Set.univ (m := outM) (r := rectR c k) (Finset.subset_univ _)) $$ Hout
  iintro Hout
  rw [wp_ret]
  imodintro
  isplitl [Hout]
  · rw [updR part c k]; iexact Hout
  isplitr; · iexact Hlev
  isplitl [HO]; · iexists W'; iexact HO
  iapply Hback
  unfold done
  isplitl [Hsp]; · iexact Hsp
  iapply (Entails.of_eq (slotAt_B part c (nR k).val k.val rfl (by have := lt3R k; omega)).symm) $$ Hsl

theorem tripG (k : Fin k1_t3_loop.trips) (u : Unit) :
    LoopI part K (10 + k.val) c ⊢ wpc c (bodyG c v19 v68 v106 k u) fun _ => LoopI part K (10 + k.val + 1) c := by
  unfold wpc bodyG k1_t3_body
  simp only [k1_part3_eq_skeleton, k1_part3_skel, Prog.lift, Prog.bind_op, Prog.bind_ret, Prog.pure_eq_ret]
  unfold LoopI
  iintro ⟨Hout, #Hlev, ⟨%W, HO⟩, Hst⟩
  ihave Ho := (steps_open part K (nG k) c) $$ Hst
  icases Ho with ⟨Htodo, Hback⟩
  iapply (wp_comm part K (nG k) c _ ((dev7_eq c).trans (tgtG k c).symm) (semG_snd k) (semG_rcv k) (src := srcG c k) (dst := dstG k)
    (acc part (10 + k.val) c) (crSrcG c k) (crDstG k) (ptsSrcG c k _) (ptsDstG _ k) (ptsLandG part c k) W) $$ [Htodo Hout HO]
  · isplitl [Htodo]; · iexact Htodo
    isplitl [Hout]; · iexact Hout
    isplitr; · iexact Hlev
    iexact HO
  iintro ⟨Hsp, Hsl, Hout, ⟨%W', HO⟩⟩
  ihave Hsl := (Entails.of_eq (slotAt_B part c (nG k).val (k.val + 3) (show 10 + k.val = _ by omega) (by have := lt3G k; omega))) $$ Hsl
  iapply (wp_load_rect 𝒱₀ (c : Thread nD τ) none Set.univ (m := bM) (r := slotG k) (le_of_eq (readsG k))) $$ Hsl
  iintro Hsl
  iapply (wp_load_rect 𝒱₀ (c : Thread nD τ) none Set.univ (m := outM) (r := rectG c k) (Finset.subset_univ _)) $$ Hout
  iintro Hout
  iapply (wp_store 𝒱₀ (c : Thread nD τ) none Set.univ (m := outM) (r := rectG c k) (Finset.subset_univ _)) $$ Hout
  iintro Hout
  rw [wp_ret]
  imodintro
  isplitl [Hout]
  · rw [updG part c k]; iexact Hout
  isplitr; · iexact Hlev
  isplitl [HO]; · iexists W'; iexact HO
  iapply Hback
  unfold done
  isplitl [Hsp]; · iexact Hsp
  iapply (Entails.of_eq (slotAt_B part c (nG k).val (k.val + 3) (show 10 + k.val = _ by omega) (by have := lt3G k; omega)).symm) $$ Hsl

theorem tripC (k : Fin k1_t4_loop.trips) (u : Unit) :
    LoopI part K (13 + k.val) c ⊢ wpc c (bodyC c v29 v42 k u) fun _ => LoopI part K (13 + k.val + 1) c := by
  unfold wpc bodyC k1_t4_body
  simp only [k1_part4_eq_skeleton, k1_part4_skel, Prog.lift, Prog.bind_op, Prog.bind_ret, Prog.pure_eq_ret]
  unfold LoopI
  iintro ⟨Hout, #Hlev, ⟨%W, HO⟩, Hst⟩
  ihave Ho := (steps_open part K (nC k) c) $$ Hst
  icases Ho with ⟨Htodo, Hback⟩
  iapply (wp_comm part K (nC k) c _ ((dev8_eq c).trans (tgtC k c).symm) (semC_snd k) (semC_rcv k) (src := srcC c k) (dst := dstC k)
    (acc part (13 + k.val) c) (crSrcC c k) (crDstC k) (ptsSrcC c k _) (ptsDstC _ k) (ptsLandC part c k) W) $$ [Htodo Hout HO]
  · isplitl [Htodo]; · iexact Htodo
    isplitl [Hout]; · iexact Hout
    isplitr; · iexact Hlev
    iexact HO
  iintro ⟨Hsp, Hsl, Hout, ⟨%W', HO⟩⟩
  ihave Hsl := (Entails.of_eq (slotAt_C part c (nC k).val k.val rfl)) $$ Hsl
  iapply (wp_load_rect 𝒱₀ (c : Thread nD τ) none Set.univ (m := cM) (r := slotC k) (le_of_eq (readsC k))) $$ Hsl
  iintro Hsl
  iapply (wp_load_rect 𝒱₀ (c : Thread nD τ) none Set.univ (m := outM) (r := rectC c k) (Finset.subset_univ _)) $$ Hout
  iintro Hout
  iapply (wp_store 𝒱₀ (c : Thread nD τ) none Set.univ (m := outM) (r := rectC c k) (Finset.subset_univ _)) $$ Hout
  iintro Hout
  rw [wp_ret]
  imodintro
  isplitl [Hout]
  · rw [updC part c k]; iexact Hout
  isplitr; · iexact Hlev
  isplitl [HO]; · iexists W'; iexact HO
  iapply Hback
  unfold done
  isplitl [Hsp]; · iexact Hsp
  iapply (Entails.of_eq (slotAt_C part c (nC k).val k.val rfl).symm) $$ Hsl

end Trips

end Cert.AllReduce
-- ==== Proof.Slot20.lean ====
/-
  The landing slots of the 20 steps are the three landing buffers, cut along their leading axis.
-/
module

public import proofs.«01_k».proof.Proof.Trips

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ UU ℕ

/-- A separating conjunction over a set is monotone in its members. -/
theorem big_mono {T : Type} {s : Finset T} {Φ Ψ : T → sProp 𝕄} (h : ∀ x ∈ s, Φ x ⊢ Ψ x) : bigSep s Φ ⊢ bigSep s Ψ :=
  Idealize.SL.BI.bigSep_mono h

/-- A separating conjunction of pairs is the pair of the separating conjunctions. -/
theorem big_sep {T : Type} (s : Finset T) (Φ Ψ : T → sProp 𝕄) : bigSep s (fun t => iprop(Φ t ∗ Ψ t)) = iprop(bigSep s Φ ∗ bigSep s Ψ) :=
  Idealize.SL.BI.bigSep_sep s Φ Ψ

theorem slot7_cover : (Finset.univ : Finset (Fin 7)).biUnion (fun k => slot7 k.val) = Finset.univ := by
  ext i
  simp only [Finset.mem_biUnion, Finset.mem_univ, true_and, iff_true]
  exact ⟨i 0, Finset.mem_filter.mpr ⟨Finset.mem_univ _, rfl⟩⟩
theorem slot6_cover : (Finset.univ : Finset (Fin 6)).biUnion (fun k => slot6 k.val) = Finset.univ := by
  ext i
  simp only [Finset.mem_biUnion, Finset.mem_univ, true_and, iff_true]
  exact ⟨i 0, Finset.mem_filter.mpr ⟨Finset.mem_univ _, rfl⟩⟩
theorem slot7_disj : ∀ t ∈ (Finset.univ : Finset (Fin 7)), ∀ t' ∈ (Finset.univ : Finset (Fin 7)), t ≠ t' → Disjoint (slot7 t.val) (slot7 t'.val) := by
  intro t _ t' _ hne
  refine Finset.disjoint_left.mpr fun i h h' => hne (Fin.ext ?_)
  exact ((Finset.mem_filter.mp h).2).symm.trans (Finset.mem_filter.mp h').2
theorem slot6_disj : ∀ t ∈ (Finset.univ : Finset (Fin 6)), ∀ t' ∈ (Finset.univ : Finset (Fin 6)), t ≠ t' → Disjoint (slot6 t.val) (slot6 t'.val) := by
  intro t _ t' _ hne
  refine Finset.disjoint_left.mpr fun i h h' => hne (Fin.ext ?_)
  exact ((Finset.mem_filter.mp h).2).symm.trans (Finset.mem_filter.mp h').2

/-- A buffer at contents not chosen is its parts at contents not chosen. -/
theorem parts_any {T : Type} [Fintype T] [DecidableEq T] {ℓ : Loc nD τ sig} (B : T → Finset (Idx ℓ))
    (hc : Finset.univ.biUnion B = Finset.univ) (hd : ∀ t ∈ (Finset.univ : Finset T), ∀ t' ∈ (Finset.univ : Finset T), t ≠ t' → Disjoint (B t) (B t')) :
    (iprop(∃ f : Buf (Elt F) ℓ, ℓ ↦[Finset.univ]{fullShare} f) : sProp 𝕄)
      ⊢ bigSep Finset.univ fun t => iprop(∃ f : Buf (Elt F) ℓ, ℓ ↦[B t]{fullShare} f) := by
  have h : ∀ (f : Buf (Elt F) ℓ) (t : T), (ℓ ↦[B t]{fullShare} f : sProp 𝕄) ⊢ iprop(∃ f : Buf (Elt F) ℓ, ℓ ↦[B t]{fullShare} f) := fun f t => by
    iintro H; iexists f; iexact H
  have h' : ∀ f : Buf (Elt F) ℓ, (ℓ ↦[Finset.univ]{fullShare} f : sProp 𝕄) ⊢ bigSep Finset.univ fun t => iprop(∃ f : Buf (Elt F) ℓ, ℓ ↦[B t]{fullShare} f) := fun f => by
    rw [← hc, pointsTo_biUnion _ _ hd]
    exact big_mono fun t _ => h f t
  iintro ⟨%f, H⟩
  iapply (h' f) $$ H
theorem parts_join {T : Type} [Fintype T] [DecidableEq T] {ℓ : Loc nD τ sig} (B : T → Finset (Idx ℓ)) [Inhabited T]
    (hc : Finset.univ.biUnion B = Finset.univ) (hd : ∀ t ∈ (Finset.univ : Finset T), ∀ t' ∈ (Finset.univ : Finset T), t ≠ t' → Disjoint (B t) (B t'))
    [Nonempty (Buf (Elt F) ℓ)] :
    (bigSep Finset.univ fun t => iprop(∃ f : Buf (Elt F) ℓ, ℓ ↦[B t]{fullShare} f))
      ⊢ (iprop(∃ f : Buf (Elt F) ℓ, ℓ ↦[Finset.univ]{fullShare} f) : sProp 𝕄) := by
  refine (Idealize.SL.BI.bigSep_exists_pi Finset.univ (fun t f => (ℓ ↦[B t]{fullShare} f : sProp 𝕄))).trans ?_
  iintro ⟨%fs, H⟩
  ihave H := (pointsTo_biUnion_join Finset.univ B fs (fs default) hd) $$ H
  icases H with ⟨%g, -, H⟩
  iexists g
  rw [hc]; iexact H

/-- The 20 steps are 7, 6 and 7. -/
def cut20 : Fin 7 ⊕ (Fin 6 ⊕ Fin 7) ≃ Fin 20 where
  toFun
    | .inl k => ⟨k.val, by omega⟩
    | .inr (.inl k) => ⟨7 + k.val, by omega⟩
    | .inr (.inr k) => ⟨13 + k.val, by omega⟩
  invFun n := if h : n.val < 7 then .inl ⟨n.val, h⟩ else if h' : n.val < 13 then .inr (.inl ⟨n.val - 7, by omega⟩) else .inr (.inr ⟨n.val - 13, by omega⟩)
  left_inv := by decide
  right_inv := by decide

theorem bigSep_cut20 (Φ : Fin 20 → sProp 𝕄) : bigSep Finset.univ Φ
    = iprop((bigSep Finset.univ fun k : Fin 7 => Φ (cut20 (.inl k))) ∗ (bigSep Finset.univ fun k : Fin 6 => Φ (cut20 (.inr (.inl k))))
      ∗ (bigSep Finset.univ fun k : Fin 7 => Φ (cut20 (.inr (.inr k))))) := by
  rw [bigSep_univ_equiv cut20, bigSep_univ_sum, bigSep_univ_sum]; rfl

/-- The three landing buffers at contents not chosen. -/
def bufsAny (c : Dev nD) : sProp 𝕄 :=
  iprop((∃ f, aOn c Finset.univ f) ∗ (∃ f, bOn c Finset.univ f) ∗ (∃ f, cOn c Finset.univ f))

theorem bufs_slots (c : Dev nD) : bufsAny (F := F) c ⊢ bigSep Finset.univ fun n : Fin 20 => slotAny (F := F) c n.val := by
  rw [bigSep_cut20]
  unfold bufsAny
  iintro ⟨Ha, Hb, Hc⟩
  isplitl [Ha]
  · ihave H := (parts_any (ℓ := (c : Thread nD τ).loc cc1_scratch0) _ slot7_cover slot7_disj) $$ Ha
    iapply (big_mono fun (k : Fin 7) _ => Entails.of_eq (slotAny_A (F := F) c k.val k.isLt).symm) $$ H
  isplitl [Hb]
  · ihave H := (parts_any (ℓ := (c : Thread nD τ).loc cc1_scratch1) _ slot6_cover slot6_disj) $$ Hb
    iapply (big_mono fun (k : Fin 6) _ => Entails.of_eq (slotAny_B (F := F) c _ k.val rfl k.isLt).symm) $$ H
  · ihave H := (parts_any (ℓ := (c : Thread nD τ).loc cc1_scratch2) _ slot7_cover slot7_disj) $$ Hc
    iapply (big_mono fun (k : Fin 7) _ => Entails.of_eq (slotAny_C (F := F) c _ k.val rfl).symm) $$ H

theorem slots_bufs [FloatOps F] (c : Dev nD) : (bigSep Finset.univ fun n : Fin 20 => slotAny (F := F) c n.val) ⊢ bufsAny (F := F) c := by
  rw [bigSep_cut20]
  unfold bufsAny cut20
  haveI h7 : Nonempty (S7x4x32x1024.Idx → F .f32) := ⟨fun _ => FloatOps.ofBits .f32 0#32⟩
  haveI h6 : Nonempty (S6x32x1024.Idx → F .f32) := ⟨fun _ => FloatOps.ofBits .f32 0#32⟩
  iintro ⟨Ha, Hb, Hc⟩
  isplitl [Ha]
  · ihave H := (big_mono (s := Finset.univ) fun (k : Fin 7) _ => Entails.of_eq (slotAny_A (F := F) c k.val k.isLt)) $$ Ha
    iapply (parts_join (ℓ := (c : Thread nD τ).loc cc1_scratch0) _ slot7_cover slot7_disj) $$ H
  isplitl [Hb]
  · ihave H := (big_mono (s := Finset.univ) fun (k : Fin 6) _ => Entails.of_eq (slotAny_B (F := F) c _ k.val rfl k.isLt)) $$ Hb
    iapply (parts_join (ℓ := (c : Thread nD τ).loc cc1_scratch1) _ slot6_cover slot6_disj) $$ H
  · ihave H := (big_mono (s := Finset.univ) fun (k : Fin 7) _ => Entails.of_eq (slotAny_C (F := F) c _ k.val rfl)) $$ Hc
    iapply (parts_join (ℓ := (c : Thread nD τ).loc cc1_scratch2) _ slot7_cover slot7_disj) $$ H

end Cert.AllReduce
-- ==== Proof.Barrier.lean ====
/-
  The barrier: what the devices hand each other through it. Before it a device holds its own landing slots; after it the slots
  it writes to, which are its neighbours'.
-/
module

public import proofs.«01_k».proof.Proof.Slot20

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (part : Dev nD → AllBuf F)

local notation "𝕄" => MT nD τ sig Unit (Elt F) ℕ UU ℕ

/-- The invariants of the barrier cells device `c` touches: its own and its four neighbours'. -/
def barInvs (K : GSem nD τ sig → ℕ) (c : Dev nD) : sProp 𝕄 :=
  iprop(cellInv ER (ringRd part) (K (barCell c)) (barCell c) ∗ cellInv ER (ringRd part) (K (barCell (il c))) (barCell (il c))
    ∗ cellInv ER (ringRd part) (K (barCell (ir c))) (barCell (ir c)) ∗ cellInv ER (ringRd part) (K (barCell (xl c))) (barCell (xl c))
    ∗ cellInv ER (ringRd part) (K (barCell (xr c))) (barCell (xr c)))
instance barInvs_persistent (K : GSem nD τ sig → ℕ) (c : Dev nD) : BI.Persistent (barInvs part K c) := by
  unfold barInvs; infer_instance

/-- That the neighbours' barrier cells are open. -/
def barReached (c : Dev nD) : sProp 𝕄 :=
  iprop(reached ER (barCell (il c)) 0 ∗ reached ER (barCell (ir c)) 0 ∗ reached ER (barCell (xl c)) 0 ∗ reached ER (barCell (xr c)) 0)
instance barReached_persistent (c : Dev nD) : BI.Persistent (barReached (F := F) c) := by
  unfold barReached; infer_instance

/-- The rights to the four signals. -/
def barToks (c : Dev nD) : sProp 𝕄 :=
  iprop(dutyTok ER (barCell (il c)) 0 0 ∗ dutyTok ER (barCell (ir c)) 0 1 ∗ dutyTok ER (barCell (xl c)) 0 2 ∗ dutyTok ER (barCell (xr c)) 0 3)

/-- What a device holds of step `n` before the barrier: everything but the landing slot it writes to. -/
def pre (K : GSem nD τ sig → ℕ) (n : Fin 20) (c : Dev nD) : sProp 𝕄 :=
  iprop(stepInvs part K n c ∗ reached ER (sndCell c n) 0 ∗ reached ER (rcvCell c n) 0
    ∗ atPos ER (sndCell c n) 0 ∅ 0 ∗ atPos ER (rcvCell c n) 0 ∅ 0
    ∗ dutyTok ER (sndCell c n) 0 0 ∗ dutyTok ER (rcvCell (tgt n.val c) n) 0 0
    ∗ cred (tallyAt (rcvCell c n) () (amt n.val)))

/-- What the barrier brings of step `n`. -/
def brought (n : Fin 20) (c : Dev nD) : sProp 𝕄 :=
  iprop(slotAny (tgt n.val c) n.val ∗ reached ER (rcvCell (tgt n.val c) n) 0)

omit [FloatOps F] in
theorem barPay_0 (c : Dev nD) : barPay (F := F) c 0 = bigSep (Finset.univ.filter fun n : Fin 20 => Intra n.val) (fun n => brought (F := F) n c) := if_pos rfl
omit [FloatOps F] in
theorem barPay_2 (c : Dev nD) : barPay (F := F) c 2 = bigSep (Finset.univ.filter fun n : Fin 20 => ¬ Intra n.val) (fun n => brought (F := F) n c) :=
  (if_neg (by decide)).trans (if_pos rfl)
omit [FloatOps F] in
theorem barPay_1 (c : Dev nD) : barPay (F := F) c 1 = iprop(emp) := (if_neg (by decide)).trans (if_neg (by decide))
omit [FloatOps F] in
theorem barPay_3 (c : Dev nD) : barPay (F := F) c 3 = iprop(emp) := (if_neg (by decide)).trans (if_neg (by decide))

omit [FloatOps F] in
theorem brought_il (n : Fin 20) (c : Dev nD) (h : Intra n.val) :
    brought (F := F) n (il c) = iprop(slotAny c n.val ∗ reached ER (rcvCell c n) 0) := by
  have e : tgt n.val (il c) = c := by unfold tgt; rw [if_pos h, ir_il]
  unfold brought; rw [e]
omit [FloatOps F] in
theorem brought_xl (n : Fin 20) (c : Dev nD) (h : ¬ Intra n.val) :
    brought (F := F) n (xl c) = iprop(slotAny c n.val ∗ reached ER (rcvCell c n) 0) := by
  have e : tgt n.val (xl c) = c := by unfold tgt; rw [if_neg h, xr_xl]
  unfold brought; rw [e]

omit [FloatOps F] in
/-- The own slots are what the two neighbours receiving them wait for. -/
theorem slots_pay (c : Dev nD) : iprop((bigSep Finset.univ fun n : Fin 20 => slotAny (F := F) c n.val)
      ∗ bigSep Finset.univ fun n : Fin 20 => reached ER (rcvCell c n) 0)
    ⊢ iprop(barPay (F := F) (il c) 0 ∗ barPay (F := F) (xl c) 2) := by
  rw [barPay_0, barPay_2]
  rw [bigSep_congr (s := Finset.univ.filter fun n : Fin 20 => Intra n.val) fun n hn => brought_il (F := F) n c (Finset.mem_filter.mp hn).2,
    bigSep_congr (s := Finset.univ.filter fun n : Fin 20 => ¬ Intra n.val) fun n hn => brought_xl (F := F) n c (Finset.mem_filter.mp hn).2]
  have h := Idealize.SL.BI.bigSep_filter_split Finset.univ (fun n : Fin 20 => Intra n.val) (Φ := fun n : Fin 20 => iprop(slotAny (F := F) c n.val ∗ reached ER (rcvCell c n) 0))
  have h2 := big_sep Finset.univ (fun n : Fin 20 => slotAny (F := F) c n.val) (fun n : Fin 20 => (reached ER (rcvCell c n) 0 : sProp 𝕄))
  refine Entails.of_eq ?_
  exact h2.symm.trans h

/-- What came through the barrier completes the steps. -/
theorem steps_of_pay (K : GSem nD τ sig → ℕ) (c : Dev nD) :
    iprop((bigSep Finset.univ fun n : Fin 20 => pre part K n c) ∗ barPay (F := F) c 0 ∗ barPay (F := F) c 2) ⊢ steps part K 0 c := by
  rw [barPay_0, barPay_2]
  have h := Idealize.SL.BI.bigSep_filter_split Finset.univ (fun n : Fin 20 => Intra n.val) (Φ := fun n : Fin 20 => brought (F := F) n c)
  have h2 := big_sep Finset.univ (fun n : Fin 20 => pre part K n c) (fun n : Fin 20 => brought (F := F) n c)
  have h3 : ∀ n : Fin 20, iprop(pre part K n c ∗ brought (F := F) n c) ⊢ (if n.val < 0 then done part K n c else todo part K n c : sProp 𝕄) := fun n => by
    rw [if_neg (Nat.not_lt_zero _)]
    unfold pre brought todo
    iintro ⟨⟨#HI, #Hr, -, Ha, Hb, Ht, Ht', Hc⟩, Hs, #Hr'⟩
    isplitr; · iexact HI
    isplitr; · iexact Hr
    isplitr; · iexact Hr'
    isplitl [Ha]; · iexact Ha
    isplitl [Hb]; · iexact Hb
    isplitl [Ht]; · iexact Ht
    isplitl [Ht']; · iexact Ht'
    isplitl [Hc]; · iexact Hc
    iexact Hs
  unfold steps
  refine Entails.trans (Entails.of_eq ?_) (big_mono fun n _ => h3 n)
  rw [h2, h]
  first | done | rfl

/-- The receive cells' rounds are open: a fact that stays. -/
theorem pre_reached (K : GSem nD τ sig → ℕ) (c : Dev nD) :
    (bigSep Finset.univ fun n : Fin 20 => pre part K n c)
      ⊢ iprop((bigSep Finset.univ fun n : Fin 20 => pre part K n c) ∗ bigSep Finset.univ fun n : Fin 20 => (reached ER (rcvCell c n) 0 : sProp 𝕄)) := by
  have h2 := big_sep Finset.univ (fun n : Fin 20 => pre part K n c) (fun n : Fin 20 => (reached ER (rcvCell c n) 0 : sProp 𝕄))
  have h3 : ∀ n : Fin 20, pre part K n c ⊢ iprop(pre part K n c ∗ reached ER (rcvCell c n) 0) := fun n => by
    unfold pre
    iintro ⟨#HI, #Hr, #Hr', H⟩
    isplitl [H]
    · isplitr; · iexact HI
      isplitr; · iexact Hr
      isplitr; · iexact Hr'
      iexact H
    iexact Hr'
  exact (big_mono fun n _ => h3 n).trans (Entails.of_eq h2)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide,
    bigSep_insert (by decide), bigSep_insert (by decide), bigSep_insert (by decide), bigSep_singleton]
  rfl

theorem rest_bar (c : Dev nD) :
    (bigSep ((ringRd part).duties (barCell c) 0 \ ∅) fun u => (ringRd part).payload (barCell c) 0 u) = iprop(barPay (F := F) c 0 ∗ barPay (F := F) c 1 ∗ barPay (F := F) c 2 ∗ barPay (F := F) c 3) := by
  rw [duties_bar, Finset.sdiff_empty, bigSep_fin4]; rfl

/-- What device `c` owes before the barrier. -/
def OB (c : Dev nD) : CellTallies nD τ sig Unit :=
  Owe 0 c + tallyAt (barCell (xr c)) () 1 + tallyAt (barCell (xl c)) () 1 + tallyAt (barCell (ir c)) () 1 + tallyAt (barCell (il c)) () 1

/-- All steps done, their cells close, and their slots are the own landing buffers again. -/
theorem steps_close (K : GSem nD τ sig → ℕ) (c : Dev nD) :
    steps part K 20 c ⊢ |={Set.univ}=> iprop((bigSep Finset.univ fun n : Fin 20 => iprop(semVal (sndCell c n) 0 ∗ semVal (rcvCell c n) 0)) ∗ bigSep Finset.univ fun n : Fin 20 => slotAny (F := F) c n.val) := by
  have h3 : ∀ n : Fin 20, (if n.val < 20 then done part K n c else todo part K n c : sProp 𝕄)
      ⊢ |={Set.univ}=> iprop((semVal (sndCell c n) 0 ∗ semVal (rcvCell c n) 0) ∗ slotAny (F := F) c n.val) := fun n => by
    rw [if_pos n.isLt]
    unfold done spent stepInvs
    iintro ⟨⟨⟨#HI, #HI', -⟩, Ha, Hb⟩, Hs⟩
    imod (Rounds.cell_close ER (ringRd part) (Set.mem_univ (K (sndCell c n))) id (duties_later part (sndCell c n))) $$ [Ha] with Hv
    · isplitr; · iexact HI
      iexact Ha
    imod (Rounds.cell_close ER (ringRd part) (Set.mem_univ (K (rcvCell c n))) id (duties_later part (rcvCell c n))) $$ [Hb] with Hv'
    · isplitr; · iexact HI'
      iexact Hb
    imodintro
    isplitl [Hv Hv']
    · isplitl [Hv] <;> iassumption
    iapply (slotAt_any part c n.val) $$ Hs
  have h2 := big_sep Finset.univ (fun n : Fin 20 => iprop(semVal (sndCell c n) 0 ∗ semVal (rcvCell c n) 0 : sProp 𝕄)) (fun n : Fin 20 => slotAny (F := F) c n.val)
  unfold steps
  refine (big_mono fun n _ => h3 n).trans ((Idealize.SL.BI.bigSep_fupd Finset.univ _).trans ?_)
  rw [h2]

end Cert.AllReduce
-- ==== Proof.Body.lean ====
/-
  The whole body of the exchange, at a device `c`: the accumulator starts at the device's part, the barrier, the four loops,
  every semaphore back at zero.
-/
module

public import proofs.«01_k».proof.Proof.Barrier

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (part : Dev nD → AllBuf F)

local notation "𝕄" => MT nD τ sig Unit (Elt F) ℕ UU ℕ

/-- Device `c`'s part, as the exchange reads it. -/
abbrev inOn (c : Dev nD) (f : AllBuf F) : sProp 𝕄 := ((c : Thread nD τ).loc cc1_stg0_0) ↦{fullShare} f

/-- The ghost state of device `c`'s cells, all opened. -/
def opened (K : GSem nD τ sig → ℕ) (c : Dev nD) : sProp 𝕄 :=
  iprop(barInvs part K c ∗ barReached (F := F) c ∗ barToks (F := F) c ∗ atPos ER (barCell c) 0 ∅ 0 ∗ bigSep Finset.univ fun n : Fin 20 => pre part K n c)

def ringPre (K : GSem nD τ sig → ℕ) (c : Dev nD) (W : Waits sig Unit) : sProp 𝕄 :=
  iprop(opened part K c ∗ cred (tallyAt (barCell c) () 4) ∗ levAts L lv ∗ bufsAny (F := F) c ∗ inOn c (part c) ∗ (∃ f, outOn c Finset.univ f)
    ∗ owes (c : Thread nD τ) (OB c) W)
def ringPost (c : Dev nD) : sProp 𝕄 :=
  iprop(semVal (barCell c) 0 ∗ (bigSep Finset.univ fun n : Fin 20 => iprop(semVal (sndCell c n) 0 ∗ semVal (rcvCell c n) 0)) ∗ bufsAny (F := F) c
    ∗ inOn c (part c) ∗ outOn c Finset.univ (acc part 20 c) ∗ ∃ W, owes (c : Thread nD τ) 0 W)

/-- The exchange's body at the kernel's buffers. -/
abbrev ringBody : Prog (TpuEff nD τ sig (Elt F) Λ₀ .tc) PUnit :=
  cc1__allreduce_body inM (Memref.isWhole_whole cc1_stg0_0) outM (Memref.isWhole_whole cc1_stg1_0) aM (Memref.isWhole_whole cc1_scratch0) bM (Memref.isWhole_whole cc1_scratch1) cM (Memref.isWhole_whole cc1_scratch2)
    cc1_scratch3 cc1_scratch4 cc1_scratch5 cc1_scratch6 cc1_scratch7 cc1_scratch8

/-- The whole array as the body reads and writes it. -/
abbrev rectAll : Rect S32x32x1024 := Rect.unit (s := S32x32x1024) ![0, 0, 0] S32x32x1024.size inb_S32x32x1024_S32x32x1024_0_0_0

theorem St_zero (c : Dev nD) : acc part 0 c = part c := rfl

/-- The first store puts the device's part in the accumulator. -/
theorem in_out (c : Dev nD) (f : AllBuf F) :
    (outM.access rectAll).write (Elt F) f (k1_pay4 ((inM.access rectAll).read (Elt F) (part c))) Finset.univ = acc part 0 c := by
  rw [pay4_eq]
  have e : (inM.access rectAll).read (Elt F) (part c) = part c := Memref.read_access_unit_zero (Elt F) cc1_stg0_0 (by decide) _ _
  rw [e]
  exact Memref.write_access_unit_zero_univ (Elt F) cc1_stg1_0 (by decide) _ _ _

theorem ringRun (K : GSem nD τ sig → ℕ) (c : Dev nD) (W : Waits sig Unit) (Kt : PUnit → sProp 𝕄) :
    iprop(ringPre part K c W ∗ (ringPost part c -∗ Kt ⟨⟩)) ⊢ wpc c (ringBody (F := F)) Kt := by
  unfold wpc ringBody
  simp only [cc1__allreduce_body_eq_skeleton, cc1__allreduce_body_skel, k1_part5_eq_skeleton, k1_part5_skel, k1_part6_eq_skeleton, k1_part6_skel,
    k1_part7_eq_skeleton, k1_part7_skel, semSignalWord, semWaitWord, Prog.lift, Prog.bind_op, Prog.bind_ret, Prog.pure_eq_ret, wp_deviceId, Prog.bind_assoc]
  unfold ringPre opened barInvs barReached barToks
  iintro ⟨⟨⟨⟨#HIb, #HIil, #HIir, #HIxl, #HIxr⟩, ⟨#Hril, #Hrir, #Hrxl, #Hrxr⟩, ⟨Hto0, Hto1, Hto2, Hto3⟩, HatB, Hpre⟩, HcB, #Hlev, Hbufs, Hin, ⟨%f0, Hout⟩, HO⟩, Hk⟩
  iapply (wp_load_rect 𝒱₀ (c : Thread nD τ) none Set.univ (m := inM) (r := rectAll) (Finset.subset_univ _)) $$ Hin
  iintro Hin
  iapply (wp_load_rect 𝒱₀ (c : Thread nD τ) none Set.univ (m := outM) (r := rectAll) (Finset.subset_univ _)) $$ Hout
  iintro Hout
  iapply (wp_store 𝒱₀ (c : Thread nD τ) none Set.univ (m := outM) (r := rectAll) (Finset.subset_univ _)) $$ Hout
  iintro Hout
  rw [show (outM.access rectAll).write (Elt F) f0 (k1_pay4 ((inM.access rectAll).read (Elt F) (part c))) Finset.univ = acc part 0 c from in_out part c f0]
  ihave Hs := (bufs_slots c) $$ Hbufs
  ihave Hp := (pre_reached part K c) $$ Hpre
  icases Hp with ⟨Hpre, Hrr⟩
  ihave Hp := (slots_pay c) $$ [Hs Hrr]
  · isplitl [Hs] <;> iassumption
  icases Hp with ⟨Hp0, Hp2⟩
  simp only [dev1_eq, dev2_eq, dev3_eq, dev4_eq]
  unfold OB
  iapply (Rounds.wp_signal 𝒱₀ ER (ringRd part) (c : Thread nD τ) none (dst := (il c : Thread nD τ)) (sem := barS) (r := 0) (d := 0) (κ := K (barCell (il c)))
      (by rw [duties_bar]; exact Finset.mem_univ _) (amount_bar part (il c) 0) () (Owe 0 c + tallyAt (barCell (xr c)) () 1 + tallyAt (barCell (xl c)) () 1 + tallyAt (barCell (ir c)) () 1) rfl) $$ [HO Hto0 Hp0]
  · isplitr; · iexact HIil
    isplitl [HO]; · iexact HO
    isplitl [Hto0]; · iexact Hto0
    isplitl [Hp0]
    · rw [payload_bar]; iexact Hp0
    iexact Hril
  iintro HO
  iapply (Rounds.wp_signal 𝒱₀ ER (ringRd part) (c : Thread nD τ) none (dst := (ir c : Thread nD τ)) (sem := barS) (r := 0) (d := 1) (κ := K (barCell (ir c)))
      (by rw [duties_bar]; exact Finset.mem_univ _) (amount_bar part (ir c) 1) () (Owe 0 c + tallyAt (barCell (xr c)) () 1 + tallyAt (barCell (xl c)) () 1) rfl) $$ [HO Hto1]
  · isplitr; · iexact HIir
    isplitl [HO]; · iexact HO
    isplitl [Hto1]; · iexact Hto1
    isplitl []
    · rw [payload_bar, barPay_1]; iempintro
    iexact Hrir
  iintro HO
  iapply (Rounds.wp_signal 𝒱₀ ER (ringRd part) (c : Thread nD τ) none (dst := (xl c : Thread nD τ)) (sem := barS) (r := 0) (d := 2) (κ := K (barCell (xl c)))
      (by rw [duties_bar]; exact Finset.mem_univ _) (amount_bar part (xl c) 2) () (Owe 0 c + tallyAt (barCell (xr c)) () 1) rfl) $$ [HO Hto2 Hp2]
  · isplitr; · iexact HIxl
    isplitl [HO]; · iexact HO
    isplitl [Hto2]; · iexact Hto2
    isplitl [Hp2]
    · rw [payload_bar]; iexact Hp2
    iexact Hrxl
  iintro HO
  iapply (Rounds.wp_signal 𝒱₀ ER (ringRd part) (c : Thread nD τ) none (dst := (xr c : Thread nD τ)) (sem := barS) (r := 0) (d := 3) (κ := K (barCell (xr c)))
      (by rw [duties_bar]; exact Finset.mem_univ _) (amount_bar part (xr c) 3) () (Owe 0 c) rfl) $$ [HO Hto3]
  · isplitr; · iexact HIxr
    isplitl [HO]; · iexact HO
    isplitl [Hto3]; · iexact Hto3
    isplitl []
    · rw [payload_bar, barPay_3]; iempintro
    iexact Hrxr
  iintro HO
  iapply (Rounds.wp_wait_rest_token 𝒱₀ ER (ringRd part) (c : Thread nD τ) none (κ := K (barCell c))
      (wpE_semWait_eq 𝒱₀ (c : Thread nD τ) none Set.univ) (Set.mem_univ _) () (O := Owe 0 c) (W := W) (R := 0) (m := 0) (T := ∅)
      ((Nat.zero_add 4).trans (expect_bar part c).symm)) $$ [HcB HO HatB]
  · isplitr; · iexact HIb
    isplitl [HcB]; · iexact HcB
    isplitl [HO]; · iexact HO
    isplitr; · iapply (mayWait c (.reg barS) 0 1 (le_of_eq (lv_bar c)) (by omega)); iexact Hlev
    iexact HatB
  iintro ⟨HO, HatB, -, Hpay⟩
  ihave Hp := (Entails.of_eq (rest_bar part c)) $$ Hpay
  icases Hp with ⟨Hp0, -, Hp2, -⟩
  ihave Hst := (steps_of_pay part K c) $$ [Hpre Hp0 Hp2]
  · isplitl [Hpre]; · iexact Hpre
    isplitl [Hp0] <;> iassumption
  ihave HL : LoopI part K 0 c $$ [Hst Hout HO]
  · unfold LoopI
    isplitl [Hout]; · iexact Hout
    isplitr; · iexact Hlev
    isplitl [HO]; · iexists (insert (SemLoc.reg barS, ()) W); iexact HO
    iexact Hst
  iapply (Scf.wp_for_bind frame (wpE (defs₀ (F := F)) 𝒱₀ (c : Thread nD τ) none) Set.univ _ _ _ k1_t1_ok ⟨⟩ _ (fun k _ => LoopI part K (k) c)
      (tripA part K c _ _ _ _ _ _ _ _)) $$ HL
  iintro %_ HL
  ihave HL := (Entails.of_eq (congrArg (fun n => LoopI part K n c) (show k1_t1_loop.trips = 7 from trips1))) $$ HL
  iapply (Scf.wp_for_bind frame (wpE (defs₀ (F := F)) 𝒱₀ (c : Thread nD τ) none) Set.univ _ _ _ k1_t2_ok ⟨⟩ _ (fun k _ => LoopI part K (7 + k) c)
      (tripR part K c _ _ _)) $$ HL
  iintro %_ HL
  ihave HL := (Entails.of_eq (congrArg (fun n => LoopI part K n c) (show (7 + k1_t2_loop.trips) = 10 from congrArg (7 + ·) trips2))) $$ HL
  iapply (Scf.wp_for_bind frame (wpE (defs₀ (F := F)) 𝒱₀ (c : Thread nD τ) none) Set.univ _ _ _ k1_t3_ok ⟨⟩ _ (fun k _ => LoopI part K (10 + k) c)
      (tripG part K c _ _ _)) $$ HL
  iintro %_ HL
  ihave HL := (Entails.of_eq (congrArg (fun n => LoopI part K n c) (show (10 + k1_t3_loop.trips) = 13 from congrArg (10 + ·) trips3))) $$ HL
  iapply (Scf.wp_for_bind frame (wpE (defs₀ (F := F)) 𝒱₀ (c : Thread nD τ) none) Set.univ _ _ _ k1_t4_ok ⟨⟩ _ (fun k _ => LoopI part K (13 + k) c)
      (tripC part K c _ _)) $$ HL
  iintro %_ HL
  ihave HL := (Entails.of_eq (congrArg (fun n => LoopI part K n c) (show (13 + k1_t4_loop.trips) = 20 from congrArg (13 + ·) trips4))) $$ HL
  unfold LoopI
  icases HL with ⟨Hout, -, ⟨%W', HO⟩, Hst⟩
  rw [wp_ret]
  imod (steps_close part K c) $$ Hst with ⟨Hv, Hs⟩
  imod (Rounds.cell_close ER (ringRd part) (Set.mem_univ (K (barCell c))) id (duties_later part (barCell c))) $$ [HatB] with HvB
  · isplitr; · iexact HIb
    iexact HatB
  imodintro
  iapply Hk
  unfold ringPost
  isplitl [HvB]; · iexact HvB
  isplitl [Hv]; · iexact Hv
  isplitl [Hs]; · iapply (slots_bufs c) $$ Hs
  isplitl [Hin]; · iexact Hin
  isplitl [Hout]; · iexact Hout
  iexists W'
  rw [← Owe_end c]; iexact HO

end Cert.AllReduce
-- ==== Proof.Compute.lean ====
/-
  The compute body: what it leaves in its output buffer, a function of the five arrays it reads.
-/
module

public import proofs.«01_k».proof.Proof.Body

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A matrix of 1024 rows and columns, and eight heads of 1024 rows of 128. -/
abbrev Mat (F : FTy → Type) : Type := S1024x1024.Idx → F .f32
abbrev Heads (F : FTy → Type) : Type := S8x1024x128.Idx → F .f32

abbrev xM : Memref sig .tc .vmem S1024x1024 .f32 := Memref.whole cc0_stg0_0
abbrev wqM : Memref sig .tc .vmem S1024x1024 .f32 := Memref.whole cc0_stg1_0
abbrev khM : Memref sig .tc .vmem S8x1024x128 .f32 := Memref.whole cc0_stg2_0
abbrev vhM : Memref sig .tc .vmem S8x1024x128 .f32 := Memref.whole cc0_stg3_0
abbrev woM : Memref sig .tc .vmem S1024x1024 .f32 := Memref.whole cc0_stg4_0
abbrev poM : Memref sig .tc .vmem S32x32x1024 .f32 := Memref.whole cc0_stg5_0

/-- A whole matrix, and one head of eight. -/
abbrev rMat : Rect S1024x1024 := Rect.unit (s := S1024x1024) ![0, 0] S1024x1024.size inb_S1024x1024_S1024x1024_0_0
abbrev rHead (h : ℕ) (inb : ∀ a, (![h, 0, 0] : Fin 3 → ℕ) a + S1x1024x128.size a ≤ S8x1024x128.size a) : Rect S8x1024x128 :=
  Rect.unit (s := S8x1024x128) ![h, 0, 0] S1x1024x128.size inb

/-- Head `h` of the keys and of the values, as the body loads it. -/
abbrev ldK (k : Heads F) (h : ℕ) (inb : ∀ a, (![h, 0, 0] : Fin 3 → ℕ) a + S1x1024x128.size a ≤ S8x1024x128.size a) : Vec F S1x1024x128 .f32 :=
  (khM.access (rHead h inb)).read (Elt F) k
abbrev ldV (v : Heads F) (h : ℕ) (inb : ∀ a, (![h, 0, 0] : Fin 3 → ℕ) a + S1x1024x128.size a ≤ S8x1024x128.size a) : Vec F S1x1024x128 .f32 :=
  (vhM.access (rHead h inb)).read (Elt F) v

/-- The block mask. -/
def maskOf : IVec S1024x1024 1 :=
  k0_pay7 (iota .tc S1024x1024 32 [1] iota_S1024x1024_d1_w32) (Scalar.select (Scalar.cmpi .eq 4#32 0#32) 1#32 4#32) k0_pay3 k0_pay4 k0_pay5 k0_pay6

/-- What the body stores, of the queries `q`, the loaded heads and the loaded output weights. -/
def heads (q : FVec F S1024x1024 .f32) (k v : Heads F) (w : Vec F S1024x1024 .f32) : AllBuf F :=
  k0_pay1 maskOf
    (k0_pay9 maskOf (k0_pay8 q) (ldK k 0 inb_S8x1024x128_S1x1024x128_0_0_0) (ldV v 0 inb_S8x1024x128_S1x1024x128_0_0_0))
    (k0_pay13 (k0_pay10 (ldV v 1 inb_S8x1024x128_S1x1024x128_1_0_0)) (k0_pay11 q maskOf (ldK k 1 inb_S8x1024x128_S1x1024x128_1_0_0))
      (k0_pay12 q maskOf (ldK k 1 inb_S8x1024x128_S1x1024x128_1_0_0)))
    (k0_pay14 q maskOf (ldK k 2 inb_S8x1024x128_S1x1024x128_2_0_0) (ldV v 2 inb_S8x1024x128_S1x1024x128_2_0_0))
    (k0_pay17 (k0_pay15 (ldV v 3 inb_S8x1024x128_S1x1024x128_3_0_0)) (k0_pay16 q maskOf (ldK k 3 inb_S8x1024x128_S1x1024x128_3_0_0)))
    (k0_pay18 q maskOf (ldK k 4 inb_S8x1024x128_S1x1024x128_4_0_0) (ldV v 4 inb_S8x1024x128_S1x1024x128_4_0_0))
    (k0_pay22 (k0_pay19 (ldV v 5 inb_S8x1024x128_S1x1024x128_5_0_0)) (k0_pay20 q maskOf (ldK k 5 inb_S8x1024x128_S1x1024x128_5_0_0))
      (k0_pay21 q maskOf (ldK k 5 inb_S8x1024x128_S1x1024x128_5_0_0)))
    (k0_pay23 q maskOf (ldK k 6 inb_S8x1024x128_S1x1024x128_6_0_0) (ldV v 6 inb_S8x1024x128_S1x1024x128_6_0_0))
    (k0_pay24 (ldV v 7 inb_S8x1024x128_S1x1024x128_7_0_0)) (k0_pay25 q (ldK k 7 inb_S8x1024x128_S1x1024x128_7_0_0))
    (Scalar.ofBits .f32 0xCE6E6B28#32) w

/-- What the body leaves in its output buffer. -/
def partOf (x wq : Mat F) (k v : Heads F) (wo : Mat F) : AllBuf F := heads (k0_pay2 x wq) k v wo

/-- The body at the kernel's buffers. -/
abbrev computeBody : Prog (TpuEff nD τ sig (Elt F) Λ₀ .tc) PUnit :=
  cc0__compute_body xM (Memref.isWhole_whole cc0_stg0_0) wqM (Memref.isWhole_whole cc0_stg1_0) khM (Memref.isWhole_whole cc0_stg2_0)
    vhM (Memref.isWhole_whole cc0_stg3_0) woM (Memref.isWhole_whole cc0_stg4_0) poM (Memref.isWhole_whole cc0_stg5_0)

theorem ld_x (x : Mat F) : (xM.access rMat).read (Elt F) x = x := Memref.read_access_unit_zero (Elt F) cc0_stg0_0 (by decide) _ _
theorem ld_wq (x : Mat F) : (wqM.access rMat).read (Elt F) x = x := Memref.read_access_unit_zero (Elt F) cc0_stg1_0 (by decide) _ _
theorem ld_wo (x : Mat F) : (woM.access rMat).read (Elt F) x = x := Memref.read_access_unit_zero (Elt F) cc0_stg4_0 (by decide) _ _
theorem st_po (f P : AllBuf F) : (poM.access rectAll).write (Elt F) f P Finset.univ = P := Memref.write_access_unit_zero_univ (Elt F) cc0_stg5_0 (by decide) _ _ _

/-- **The compute body**, on any device: it reads its five arrays and leaves `partOf` of them in the sixth. -/
theorem computeRun (c : Dev nD) (x wq : Mat F) (k v : Heads F) (wo : Mat F) (f : AllBuf F) (Kt : PUnit → sProp 𝕄) :
    iprop(((c : Thread nD τ).loc cc0_stg0_0 ↦{fullShare} x) ∗ ((c : Thread nD τ).loc cc0_stg1_0 ↦{fullShare} wq) ∗ ((c : Thread nD τ).loc cc0_stg2_0 ↦{fullShare} k)
        ∗ ((c : Thread nD τ).loc cc0_stg3_0 ↦{fullShare} v) ∗ ((c : Thread nD τ).loc cc0_stg4_0 ↦{fullShare} wo) ∗ ((c : Thread nD τ).loc cc0_stg5_0 ↦{fullShare} f)
        ∗ (((c : Thread nD τ).loc cc0_stg0_0 ↦{fullShare} x) ∗ ((c : Thread nD τ).loc cc0_stg1_0 ↦{fullShare} wq) ∗ ((c : Thread nD τ).loc cc0_stg2_0 ↦{fullShare} k)
          ∗ ((c : Thread nD τ).loc cc0_stg3_0 ↦{fullShare} v) ∗ ((c : Thread nD τ).loc cc0_stg4_0 ↦{fullShare} wo) ∗ ((c : Thread nD τ).loc cc0_stg5_0 ↦{fullShare} partOf x wq k v wo)
          -∗ Kt ⟨⟩))
      ⊢ wpc c (computeBody (F := F)) Kt := by
  unfold wpc computeBody
  simp only [cc0__compute_body_eq_skeleton, cc0__compute_body_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton, k0_part6_skel,
    Prog.lift, Prog.bind_op, Prog.bind_ret, Prog.pure_eq_ret, Prog.bind_assoc]
  iintro ⟨Hx, Hq, Hk, Hv, Ho, Hp, Hw⟩
  iapply (wp_load_rect 𝒱₀ (c : Thread nD τ) none Set.univ (m := xM) (r := rMat) (Finset.subset_univ _)) $$ Hx
  iintro Hx
  iapply (wp_load_rect 𝒱₀ (c : Thread nD τ) none Set.univ (m := wqM) (r := rMat) (Finset.subset_univ _)) $$ Hq
  iintro Hq
  iapply (wp_load_rect 𝒱₀ (c : Thread nD τ) none Set.univ (m := khM) (r := rHead 0 inb_S8x1024x128_S1x1024x128_0_0_0) (Finset.subset_univ _)) $$ Hk
  iintro Hk
  iapply (wp_load_rect 𝒱₀ (c : Thread nD τ) none Set.univ (m := vhM) (r := rHead 0 inb_S8x1024x128_S1x1024x128_0_0_0) (Finset.subset_univ _)) $$ Hv
  iintro Hv
  iapply (wp_load_rect 𝒱₀ (c : Thread nD τ) none Set.univ (m := khM) (r := rHead 1 inb_S8x1024x128_S1x1024x128_1_0_0) (Finset.subset_univ _)) $$ Hk
  iintro Hk
  iapply (wp_load_rect 𝒱₀ (c : Thread nD τ) none Set.univ (m := vhM) (r := rHead 1 inb_S8x1024x128_S1x1024x128_1_0_0) (Finset.subset_univ _)) $$ Hv
  iintro Hv
  iapply (wp_load_rect 𝒱₀ (c : Thread nD τ) none Set.univ (m := khM) (r := rHead 2 inb_S8x1024x128_S1x1024x128_2_0_0) (Finset.subset_univ _)) $$ Hk
  iintro Hk
  iapply (wp_load_rect 𝒱₀ (c : Thread nD τ) none Set.univ (m := vhM) (r := rHead 2 inb_S8x1024x128_S1x1024x128_2_0_0) (Finset.subset_univ _)) $$ Hv
  iintro Hv
  iapply (wp_load_rect 𝒱₀ (c : Thread nD τ) none Set.univ (m := khM) (r := rHead 3 inb_S8x1024x128_S1x1024x128_3_0_0) (Finset.subset_univ _)) $$ Hk
  iintro Hk
  iapply (wp_load_rect 𝒱₀ (c : Thread nD τ) none Set.univ (m := vhM) (r := rHead 3 inb_S8x1024x128_S1x1024x128_3_0_0) (Finset.subset_univ _)) $$ Hv
  iintro Hv
  iapply (wp_load_rect 𝒱₀ (c : Thread nD τ) none Set.univ (m := khM) (r := rHead 4 inb_S8x1024x128_S1x1024x128_4_0_0) (Finset.subset_univ _)) $$ Hk
  iintro Hk
  iapply (wp_load_rect 𝒱₀ (c : Thread nD τ) none Set.univ (m := vhM) (r := rHead 4 inb_S8x1024x128_S1x1024x128_4_0_0) (Finset.subset_univ _)) $$ Hv
  iintro Hv
  iapply (wp_load_rect 𝒱₀ (c : Thread nD τ) none Set.univ (m := khM) (r := rHead 5 inb_S8x1024x128_S1x1024x128_5_0_0) (Finset.subset_univ _)) $$ Hk
  iintro Hk
  iapply (wp_load_rect 𝒱₀ (c : Thread nD τ) none Set.univ (m := vhM) (r := rHead 5 inb_S8x1024x128_S1x1024x128_5_0_0) (Finset.subset_univ _)) $$ Hv
  iintro Hv
  iapply (wp_load_rect 𝒱₀ (c : Thread nD τ) none Set.univ (m := khM) (r := rHead 6 inb_S8x1024x128_S1x1024x128_6_0_0) (Finset.subset_univ _)) $$ Hk
  iintro Hk
  iapply (wp_load_rect 𝒱₀ (c : Thread nD τ) none Set.univ (m := vhM) (r := rHead 6 inb_S8x1024x128_S1x1024x128_6_0_0) (Finset.subset_univ _)) $$ Hv
  iintro Hv
  iapply (wp_load_rect 𝒱₀ (c : Thread nD τ) none Set.univ (m := khM) (r := rHead 7 inb_S8x1024x128_S1x1024x128_7_0_0) (Finset.subset_univ _)) $$ Hk
  iintro Hk
  iapply (wp_load_rect 𝒱₀ (c : Thread nD τ) none Set.univ (m := vhM) (r := rHead 7 inb_S8x1024x128_S1x1024x128_7_0_0) (Finset.subset_univ _)) $$ Hv
  iintro Hv
  iapply (wp_load_rect 𝒱₀ (c : Thread nD τ) none Set.univ (m := woM) (r := rMat) (Finset.subset_univ _)) $$ Ho
  iintro Ho
  iapply (wp_load_rect 𝒱₀ (c : Thread nD τ) none Set.univ (m := poM) (r := rectAll) (Finset.subset_univ _)) $$ Hp
  iintro Hp
  iapply (wp_store 𝒱₀ (c : Thread nD τ) none Set.univ (m := poM) (r := rectAll) (Finset.subset_univ _)) $$ Hp
  iintro Hp
  rw [wp_ret]
  imodintro
  iapply Hw
  rw [ld_x, ld_wq, ld_wo, st_po]
  iframe Hx Hq Hk Hv Ho
  iexact Hp

end Cert.AllReduce
-- ==== Proof.Dats.lean ====
/-
  The two pipelines' proof data: what each region finds in its arrays and leaves in them, and each body's obligation.
-/
module

public import proofs.«01_k».proof.Proof.Compute
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit
public import Idealize.ShloMosaic.Lib.Pipeline.FrameTail
public import Idealize.ShloMosaic.Lib.Pipeline.RegionArraysS
public import Idealize.ShloMosaic.Lib.Pipeline.RegionTalk

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] (m : (ℓ : Loc nD τ sig) → Buf (Elt F) ℓ)

local notation "𝕄" => MT nD τ sig Unit (Elt F) ℕ UU ℕ

/-! ## The contents between the items -/

/-- Device `c`'s part: what the compute body leaves, of the arrays the host lines before it made. -/
def partA (c : Dev nD) : AllBuf F := partOf (V1 m c main_v19) (V1 m c main_arg1) (V1 m c main_v17) (V1 m c main_v18) (V1 m c main_arg4)
/-- What the exchange leaves on device `c`. -/
def totalA (c : Dev nD) : AllBuf F := acc (partA m) 20 c

/-- The buffers after each region. -/
def VA (c : Dev nD) : Valuation τ sig (Elt F) := Function.update (V1 m c) (Proc.devRef .tc main_v20) (partA m c)
def VB (c : Dev nD) : Valuation τ sig (Elt F) := Function.update (VA m c) (Proc.devRef .tc main_v21) (totalA m c)

theorem VA_v20 (c : Dev nD) : VA m c (Proc.devRef .tc main_v20) = partA m c := Function.update_self _ _ _
theorem VA_of (c : Dev nD) (b : DevRef τ sig) (h : b ≠ Proc.devRef .tc main_v20) : VA m c b = V1 m c b := Function.update_of_ne h _ _
theorem VB_v21 (c : Dev nD) : VB m c (Proc.devRef .tc main_v21) = totalA m c := Function.update_self _ _ _
theorem VB_of (c : Dev nD) (b : DevRef τ sig) (h : b ≠ Proc.devRef .tc main_v21) : VB m c b = VA m c b := Function.update_of_ne h _ _

/-! ## The proof data -/

/-- Region 0: what it owes rides through, and the buffers it does not stage. -/
def dat0 (c : Dev nD) : Dat τ (Elt F) Unit ℕ UU ℕ cfg0 c where
  A w := V1 m c (Proc.devRef .tc (Pipeline.arrRef spec0 w))
  after w _ := match w with
    | ⟨0, _⟩ => V1 m c main_v19
    | ⟨1, _⟩ => V1 m c main_arg1
    | ⟨2, _⟩ => V1 m c main_v17
    | ⟨3, _⟩ => V1 m c main_v18
    | ⟨4, _⟩ => V1 m c main_arg4
    | ⟨5, _⟩ => partA m c
  Φ _ := Pipeline.scopedRest (Ix := Unit) (Name := ℕ) (U := UU) (Lvl := ℕ) (Val := Elt F) spec0 c
  q _ := fullShare
  owed _ := OB c

/-- What region 1 starts with beside its buffers, and what it ends with. -/
def Xk (c : Dev nD) : sProp 𝕄 := iprop((∃ K, opened (partA m) K c) ∗ cred (tallyAt (barCell c) () 4) ∗ levAts L lv)
def sems20 (c : Dev nD) : sProp 𝕄 := bigSep Finset.univ fun n : Fin 20 => iprop(semVal (sndCell c n) 0 ∗ semVal (rcvCell c n) 0)

/-- Region 1: the exchange. -/
def dat1 (c : Dev nD) : Dat τ (Elt F) Unit ℕ UU ℕ cfg1 c where
  A w := VA m c (Proc.devRef .tc (Pipeline.arrRef spec1 w))
  after w _ := match w with
    | ⟨0, _⟩ => partA m c
    | ⟨1, _⟩ => totalA m c
  Φ t := if t.val = 0
    then iprop(Pipeline.scopedRest (Ix := Unit) (Name := ℕ) (U := UU) (Lvl := ℕ) (Val := Elt F) spec1 c ∗ (∃ r, prngReg c r) ∗ Xk m c)
    else iprop(Pipeline.scopedRest (Ix := Unit) (Name := ℕ) (U := UU) (Lvl := ℕ) (Val := Elt F) spec1 c ∗ (∃ r, prngReg c r) ∗ sems20 (F := F) c ∗ semVal (barCell c) 0)
  q _ := fullShare
  owed t := if t.val = 0 then OB c else 0

/-! A fetch of a whole array reads the array. -/

theorem rd_v19 (f : Mat F) : (win0_0.blk t0_0).view.read (Elt F) f = f := Memref.read_access_unit_zero (Elt F) main_v19 (by decide) _ _
theorem rd_arg1 (f : Mat F) : (win0_1.blk t0_0).view.read (Elt F) f = f := Memref.read_access_unit_zero (Elt F) main_arg1 (by decide) _ _
theorem rd_v17 (f : Heads F) : (win0_2.blk t0_0).view.read (Elt F) f = f := Memref.read_access_unit_zero (Elt F) main_v17 (by decide) _ _
theorem rd_v18 (f : Heads F) : (win0_3.blk t0_0).view.read (Elt F) f = f := Memref.read_access_unit_zero (Elt F) main_v18 (by decide) _ _
theorem rd_arg4 (f : Mat F) : (win0_4.blk t0_0).view.read (Elt F) f = f := Memref.read_access_unit_zero (Elt F) main_arg4 (by decide) _ _
theorem rd_v20 (f : AllBuf F) : (win1_0.blk t1_0).view.read (Elt F) f = f := Memref.read_access_unit_zero (Elt F) main_v20 (by decide) _ _

/-! What each staging buffer holds when its body runs. -/

theorem before0_0 (c : Dev nD) (d : Mat F) : (dat0 m c).before 0 t0_0 d = V1 m c main_v19 := by
  unfold Dat.before; rw [if_pos (fetch0_0 _)]; exact rd_v19 (V1 m c main_v19)
theorem before0_1 (c : Dev nD) (d : Mat F) : (dat0 m c).before 1 t0_0 d = V1 m c main_arg1 := by
  unfold Dat.before; rw [if_pos (fetch0_1 _)]; exact rd_arg1 (V1 m c main_arg1)
theorem before0_2 (c : Dev nD) (d : Heads F) : (dat0 m c).before 2 t0_0 d = V1 m c main_v17 := by
  unfold Dat.before; rw [if_pos (fetch0_2 _)]; exact rd_v17 (V1 m c main_v17)
theorem before0_3 (c : Dev nD) (d : Heads F) : (dat0 m c).before 3 t0_0 d = V1 m c main_v18 := by
  unfold Dat.before; rw [if_pos (fetch0_3 _)]; exact rd_v18 (V1 m c main_v18)
theorem before0_4 (c : Dev nD) (d : Mat F) : (dat0 m c).before 4 t0_0 d = V1 m c main_arg4 := by
  unfold Dat.before; rw [if_pos (fetch0_4 _)]; exact rd_arg4 (V1 m c main_arg4)
theorem before1_0 (c : Dev nD) (d : AllBuf F) : (dat1 m c).before 0 t1_0 d = partA m c := by
  unfold Dat.before; rw [if_pos (fetch1_0 _)]; exact (rd_v20 (VA m c main_v20)).trans (VA_v20 m c)

end Cert.AllReduce
-- ==== Proof.Bodies.lean ====
/-
  The two bodies' obligations, and what each region leaves in the buffers.
-/
module

public import proofs.«01_k».proof.Proof.Dats

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] (m : (ℓ : Loc nD τ sig) → Buf (Elt F) ℓ)

local notation "𝕄" => MT nD τ sig Unit (Elt F) ℕ UU ℕ

/-! ## What the regions leave -/

theorem arr0_of {c : Dev nD} (dat : Dat τ (Elt F) Unit ℕ UU ℕ cfg0 c) (T : AllBuf F) (h : dat.after 5 t0_0 = T) : dat.arrAt 5 cfg0.N = T := by
  refine dat.arrAt_eq_of_after_last 5 t0_0 (by decide +kernel) _ fun j => ?_
  rw [h]
  refine congrArg T (funext fun a => Fin.ext ?_)
  rfl
theorem arr0_5 (c : Dev nD) : (dat0 m c).arrAt 5 cfg0.N = partA m c := arr0_of (dat0 m c) (partA m c) rfl

theorem arr1_of {c : Dev nD} (dat : Dat τ (Elt F) Unit ℕ UU ℕ cfg1 c) (T : AllBuf F) (h : dat.after 1 t1_0 = T) : dat.arrAt 1 cfg1.N = T := by
  refine dat.arrAt_eq_of_after_last 1 t1_0 (by decide +kernel) _ fun j => ?_
  rw [h]
  refine congrArg T (funext fun a => Fin.ext ?_)
  rfl
theorem arr1_1 (c : Dev nD) : (dat1 m c).arrAt 1 cfg1.N = totalA m c := arr1_of (dat1 m c) (totalA m c) rfl

theorem after0 (c : Dev nD) (b : DevRef τ sig) (hb : b ∈ StableHlo.tcRefs τ sig) : Pipeline.afterRegion (dat0 m c) (V1 m c) b = VA m c b := by
  obtain ⟨r, -, rfl⟩ := Finset.mem_map.mp hb
  by_cases h : r = main_v20
  · subst h
    exact ((Pipeline.afterRegion_arr (dat0 m c) (V1 m c) winFacts0.arr_inj 5).trans (arr0_5 m c)).trans (VA_v20 m c).symm
  · refine (Pipeline.afterRegion_keeps (dat0 m c) (V1 m c) winFacts0.arr_inj (fun _ => rfl) r fun w hw => ?_).trans (VA_of m c _ ?_).symm
    · revert hw; fin_cases w <;> first | (intro; rfl) | (intro e; exact absurd e.symm h)
    · exact StableHlo.devRef_ne_of_ne h

theorem after1 (c : Dev nD) (b : DevRef τ sig) (hb : b ∈ StableHlo.tcRefs τ sig) : Pipeline.afterRegion (dat1 m c) (VA m c) b = VB m c b := by
  obtain ⟨r, -, rfl⟩ := Finset.mem_map.mp hb
  by_cases h : r = main_v21
  · subst h
    exact ((Pipeline.afterRegion_arr (dat1 m c) (VA m c) winFacts1.arr_inj 1).trans (arr1_1 m c)).trans (VB_v21 m c).symm
  · refine (Pipeline.afterRegion_keeps (dat1 m c) (VA m c) winFacts1.arr_inj (fun _ => rfl) r fun w hw => ?_).trans (VB_of m c _ ?_).symm
    · revert hw; fin_cases w <;> first | (intro; rfl) | (intro e; exact absurd e.symm h)
    · exact StableHlo.devRef_ne_of_ne h

/-! ## What a core owes, in and out of a region's point -/

theorem owesAt_in {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound; rw [h0, hr]
  iintro HO; iexists W
  isplitr
  · ipureintro; exact fun _ _ => Or.inl trivial
  iexact HO
theorem owesAt_out {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-! ## The obligations -/

theorem body0 (c : Dev nD) : BodyObligation (dat0 m c) (defs₀ (F := F)) 𝒱₀ () Set.univ := fun t => by
  obtain rfl := fin_N0 t
  rw [bigSep_W0, bigSep_W0]
  simp only [owns_whole_eq]
  rw [show (dat0 m c).Φ t0_0.succ = (dat0 m c).Φ t0_0.castSucc from rfl,
    show (dat0 m c).owesAt () t0_0.succ = (dat0 m c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0_0] at hf0; rw [before0_1] at hf1; rw [before0_2] at hf2; rw [before0_3] at hf3; rw [before0_4] at hf4
  subst hf0 hf1 hf2 hf3 hf4
  iapply (computeRun c (V1 m c main_v19) (V1 m c main_arg1) (V1 m c main_v17) (V1 m c main_v18) (V1 m c main_arg4) f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

theorem body1 (c : Dev nD) : BodyObligation (dat1 m c) (defs₀ (F := F)) 𝒱₀ () Set.univ := fun t => by
  obtain rfl := fin_N1 t
  rw [bigSep_W1, bigSep_W1]
  simp only [owns_whole_eq]
  rw [show (dat1 m c).Φ t1_0.castSucc = iprop(Pipeline.scopedRest (Ix := Unit) (Name := ℕ) (U := UU) (Lvl := ℕ) (Val := Elt F) spec1 c ∗ (∃ r, prngReg c r) ∗ Xk m c) from rfl,
    show (dat1 m c).Φ t1_0.succ = iprop(Pipeline.scopedRest (Ix := Unit) (Name := ℕ) (U := UU) (Lvl := ℕ) (Val := Elt F) spec1 c ∗ (∃ r, prngReg c r) ∗ sems20 (F := F) c ∗ semVal (barCell c) 0) from rfl,
    scopedRest1_eq]
  unfold Xk
  iintro ⟨⟨⟨Hc0, Hc1, Hc2, Hc3, Hc4, Hc5, Ha, Hb, Hcc⟩, Hreg, ⟨%K, Hop⟩, HcB, Hlev⟩, HO, ⟨%d0, %f0, %hf0, H0⟩, ⟨%d1, %f1, -, H1⟩⟩
  rw [before1_0] at hf0
  subst hf0
  ihave HO' := (owesAt_out (dat1 m c) _ (OB c) rfl) $$ HO
  icases HO' with ⟨%W, HO⟩
  iapply (ringRun (partA m) K c W _)
  isplitl [Hop HcB Hlev Ha Hb Hcc H0 H1 HO]
  · unfold ringPre bufsAny
    isplitl [Hop]; · iexact Hop
    isplitl [HcB]; · iexact HcB
    isplitl [Hlev]; · iexact Hlev
    isplitl [Ha Hb Hcc]
    · isplitl [Ha]; · iexact Ha
      isplitl [Hb]; · iexact Hb
      iexact Hcc
    isplitl [H0]; · iexact H0
    isplitl [H1]; · iexists f1; iexact H1
    iexact HO
  unfold ringPost bufsAny
  iintro ⟨Hb0, Hs, ⟨Ha, Hb, Hcc⟩, H0, H1, ⟨%W', HO⟩⟩
  isplitr [HO H0 H1]
  · isplitl [Hc0 Hc1 Hc2 Hc3 Hc4 Hc5 Ha Hb Hcc]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Ha]; · iexact Ha
      isplitl [Hb]; · iexact Hb
      iexact Hcc
    isplitl [Hreg]; · iexact Hreg
    isplitl [Hs]; · unfold sems20; iexact Hs
    iexact Hb0
  isplitl [HO]; · iapply (owesAt_in (dat1 m c) t1_0.succ 0 rfl rfl W'); iexact HO
  isplitl [H0]; · iexists _; isplitr; swap; (· iexact H0); ipureintro; rfl
  iexists _; isplitr; swap; (· iexact H1); ipureintro; rfl

end Cert.AllReduce
-- ==== Proof.Ghost.lean ====
/-
  The launch's ghost state: an invariant for every cell, the scoped ones dormant until the exchange opens them, and the duty
  tokens dealt to the devices that pay them.
-/
module

public import proofs.«01_k».proof.Proof.Bodies

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (part : Dev nD → AllBuf F)

local notation "𝕄" => MT nD τ sig Unit (Elt F) ℕ UU ℕ

omit [FloatOps F] in
theorem big_pair {T : Type} [Fintype T] {Φ Ψ : T → sProp 𝕄} : iprop(bigSep Finset.univ Φ ∗ bigSep Finset.univ Ψ) ⊢ bigSep Finset.univ fun t => iprop(Φ t ∗ Ψ t) :=
  Entails.of_eq (big_sep Finset.univ Φ Ψ).symm

omit [FloatOps F] in
theorem big_comm {T T' : Type} [Fintype T] [Fintype T'] (Φ : T → T' → sProp 𝕄) :
    (bigSep Finset.univ fun t => bigSep Finset.univ fun u => Φ t u) = bigSep Finset.univ fun u => bigSep Finset.univ fun t => Φ t u := by
  rw [← bigSep_univ_prod (fun x : T × T' => Φ x.1 x.2), bigSep_univ_equiv (Equiv.prodComm T' T), bigSep_univ_prod]
  rfl

/-- The exchange's own semaphores: of every step its send's (`0`) and its receipt's (`1`). -/
abbrev osem (k : Fin 20 × Fin 2) : SemLoc sig := .dma (if k.2 = 0 then sndS k.1 else rcvS k.1)
theorem osem_inj : Function.Injective osem := by decide +kernel
theorem osem_ne_bar (k : Fin 20 × Fin 2) : osem k ≠ .reg barS := by intro h; cases h

def barEmb : Dev nD ↪ GSem nD τ sig := ⟨fun c => barCell c, fun _ _ h => congrArg (fun g : GSem nD τ sig => g.1.1) h⟩
def dmaEmb : Dev nD × (Fin 20 × Fin 2) ↪ GSem nD τ sig :=
  ⟨fun x => ((x.1 : Thread nD τ), osem x.2), fun _ _ h =>
    Prod.ext (congrArg (fun g : GSem nD τ sig => g.1.1) h) (osem_inj (congrArg Prod.snd h))⟩
abbrev barCells : Finset (GSem nD τ sig) := Finset.univ.map barEmb
abbrev dmaCells : Finset (GSem nD τ sig) := Finset.univ.map dmaEmb

theorem cells_disj : Disjoint barCells dmaCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)
theorem bar_mem (c : Dev nD) : barCell c ∈ barCells ∪ dmaCells :=
  Finset.mem_union_left _ (Finset.mem_map_of_mem barEmb (Finset.mem_univ c))
theorem snd_mem (c : Dev nD) (n : Fin 20) : sndCell c n ∈ barCells ∪ dmaCells :=
  Finset.mem_union_right _ (Finset.mem_map_of_mem dmaEmb (Finset.mem_univ (c, n, (0 : Fin 2))))
theorem rcv_mem (c : Dev nD) (n : Fin 20) : rcvCell c n ∈ barCells ∪ dmaCells :=
  Finset.mem_union_right _ (Finset.mem_map_of_mem dmaEmb (Finset.mem_univ (c, n, (1 : Fin 2))))

/-- A duty of a device's cells: of the barrier one of four, of the others one each. -/
abbrev dutyOf : Fin 4 ⊕ (Fin 20 × Fin 2) → SemLoc sig × Fin 4
  | .inl d => (.reg barS, d)
  | .inr k => (osem k, 0)
theorem dutyOf_inj : Function.Injective dutyOf := by
  rintro (d | k) (d' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))
def allToks : Finset (GSem nD τ sig × ℕ × Fin 4) :=
  Finset.univ.map ⟨fun x : Dev nD × (Fin 4 ⊕ (Fin 20 × Fin 2)) => (((x.1 : Thread nD τ), (dutyOf x.2).1), 0, (dutyOf x.2).2), fun _ _ h =>
    Prod.ext (congrArg (fun t : GSem nD τ sig × ℕ × Fin 4 => t.1.1.1) h)
      (dutyOf_inj (Prod.ext (congrArg (fun t : GSem nD τ sig × ℕ × Fin 4 => t.1.2) h) (congrArg (fun t : GSem nD τ sig × ℕ × Fin 4 => t.2.2) h)))⟩

/-- The launch element of the exchange's cells. -/
abbrev launchEl : URd := launchOf barCells dmaCells allToks

/-- What every device may consult: all the invariants, and that the barrier cells are open. -/
def records (K : GSem nD τ sig → ℕ) : sProp 𝕄 :=
  iprop((bigSep (barCells ∪ dmaCells) fun g => cellInv ER (ringRd part) (K g) g) ∗ bigSep barCells fun g => reached ER g 0)
instance records_persistent (K : GSem nD τ sig → ℕ) : BI.Persistent (records part K) := by unfold records; infer_instance

theorem inv_at (K : GSem nD τ sig → ℕ) {g : GSem nD τ sig} (hg : g ∈ barCells ∪ dmaCells) :
    records part K ⊢ cellInv ER (ringRd part) (K g) g := by
  have h : (bigSep (barCells ∪ dmaCells) fun g => (cellInv ER (ringRd part) (K g) g : sProp 𝕄)) ⊢ cellInv ER (ringRd part) (K g) g := bigSep_elim hg
  unfold records; iintro ⟨#H, -⟩
  iapply h; iexact H
theorem open_at (K : GSem nD τ sig → ℕ) (c : Dev nD) : records part K ⊢ reached ER (barCell c) 0 := by
  have h : (bigSep barCells fun g => (reached ER g 0 : sProp 𝕄)) ⊢ reached ER (barCell c) 0 :=
    bigSep_elim (Finset.mem_map_of_mem barEmb (Finset.mem_univ c))
  unfold records; iintro ⟨-, #H⟩
  iapply h; iexact H

/-- What is one device's alone: its place in the barrier cell, the rights to open its other cells, and the tokens of the duties it pays. -/
def dealt (c : Dev nD) : sProp 𝕄 :=
  iprop(atPos ER (barCell c) 0 ∅ 0 ∗ barToks (F := F) c
    ∗ (bigSep Finset.univ fun n : Fin 20 => iprop(openTok ER (sndCell c n) ∗ openTok ER (rcvCell c n)))
    ∗ bigSep Finset.univ fun n : Fin 20 => iprop(dutyTok ER (sndCell c n) 0 0 ∗ dutyTok ER (rcvCell (tgt n.val c) n) 0 0))

/-- A device's credits: four at its barrier, a message's at each receipt. -/
def credits (c : Dev nD) : sProp 𝕄 :=
  iprop(cred (tallyAt (barCell c) () 4) ∗ bigSep Finset.univ fun n : Fin 20 => cred (tallyAt (rcvCell c n) () (amt n.val)))

/-- What the exchange takes from the launch. -/
def Tk (c : Dev nD) : sProp 𝕄 := iprop((∃ K, records part K ∗ dealt (F := F) c) ∗ credits (F := F) c)

omit [FloatOps F] in
theorem own_sems (c : Dev nD) : (Pipeline.ownSems0 (Ix := Unit) (Name := ℕ) (U := UU) (Lvl := ℕ) (Val := Elt F) osem c : sProp 𝕄)
    = bigSep Finset.univ fun n : Fin 20 => iprop(semVal (sndCell c n) 0 ∗ semVal (rcvCell c n) 0) := by
  unfold Pipeline.ownSems0
  rw [bigSep_univ_prod]
  exact bigSep_congr fun n _ => BI.bigSep_fin_two (fun k : Fin 2 => (semVal ((c : Thread nD τ), osem (n, k)) 0 : sProp 𝕄))

/-- One step's cells opened. -/
theorem open_step (K : GSem nD τ sig → ℕ) (c : Dev nD) (n : Fin 20) :
    iprop(records part K ∗ ((semVal (sndCell c n) 0 ∗ semVal (rcvCell c n) 0) ∗ (openTok ER (sndCell c n) ∗ openTok ER (rcvCell c n))
        ∗ (dutyTok ER (sndCell c n) 0 0 ∗ dutyTok ER (rcvCell (tgt n.val c) n) 0 0) ∗ cred (tallyAt (rcvCell c n) () (amt n.val))))
      ⊢ (|={Set.univ}=> pre part K n c : sProp 𝕄) := by
  iintro ⟨#HR, ⟨Hs, Hr⟩, ⟨Hos, Hor⟩, ⟨Ht, Ht'⟩, Hc⟩
  ihave #HIs := (inv_at part K (snd_mem c n)) $$ HR
  ihave #HIr := (inv_at part K (rcv_mem c n)) $$ HR
  ihave #HIt := (inv_at part K (rcv_mem (tgt n.val c) n)) $$ HR
  imod (Rounds.cell_open ER (ringRd part) (g := sndCell c n) (Set.mem_univ (K (sndCell c n)))) $$ [Hos Hs] with ⟨Has, #Hrs⟩
  · isplitr; · iexact HIs
    isplitl [Hos] <;> iassumption
  imod (Rounds.cell_open ER (ringRd part) (g := rcvCell c n) (Set.mem_univ (K (rcvCell c n)))) $$ [Hor Hr] with ⟨Har, #Hrr⟩
  · isplitr; · iexact HIr
    isplitl [Hor] <;> iassumption
  imodintro
  unfold pre stepInvs
  isplitr
  · isplitr; · iexact HIs
    isplitr; · iexact HIr
    iexact HIt
  isplitr; · iexact Hrs
  isplitr; · iexact Hrr
  isplitl [Has]; · iexact Has
  isplitl [Har]; · iexact Har
  isplitl [Ht]; · iexact Ht
  isplitl [Ht']; · iexact Ht'
  iexact Hc

/-- The launch's ghost state, with the counters of the exchange's own semaphores at zero, is the ghost state of the opened cells. -/
theorem open_all (c : Dev nD) : iprop(Tk part c ∗ Pipeline.ownSems0 osem c ∗ levAts L lv)
    ⊢ (|={Set.univ}=> iprop((∃ K, opened part K c) ∗ cred (tallyAt (barCell c) () 4) ∗ levAts L lv) : sProp 𝕄) := by
  rw [own_sems]
  unfold Tk dealt credits
  iintro ⟨⟨⟨%K, #HR, Hat, Htk, Hop, Hdt⟩, HcB, Hcr⟩, Hsv, #Hlev⟩
  have h : iprop(records part K ∗ (bigSep Finset.univ fun n : Fin 20 => iprop((semVal (sndCell c n) 0 ∗ semVal (rcvCell c n) 0) ∗ (openTok ER (sndCell c n) ∗ openTok ER (rcvCell c n))
        ∗ (dutyTok ER (sndCell c n) 0 0 ∗ dutyTok ER (rcvCell (tgt n.val c) n) 0 0) ∗ cred (tallyAt (rcvCell c n) () (amt n.val)))))
      ⊢ (|={Set.univ}=> bigSep Finset.univ fun n : Fin 20 => pre part K n c : sProp 𝕄) :=
    (bigSep_with_persistent (R := records part K) (Ψ := fun n : Fin 20 => (iprop(|={Set.univ}=> pre part K n c) : sProp 𝕄)) fun n _ => open_step part K c n).trans
      (Idealize.SL.BI.bigSep_fupd Finset.univ _)
  imod h $$ [Hsv Hop Hdt Hcr] with Hpre
  · isplitr; · iexact HR
    iapply big_pair; isplitl [Hsv]; · iexact Hsv
    iapply big_pair; isplitl [Hop]; · iexact Hop
    iapply big_pair; isplitl [Hdt] <;> iassumption
  imodintro
  isplitr [HcB]
  · iexists K
    unfold opened barInvs barReached
    isplitr
    · isplitr; · iapply (inv_at part K (bar_mem c)); iexact HR
      isplitr; · iapply (inv_at part K (bar_mem (il c))); iexact HR
      isplitr; · iapply (inv_at part K (bar_mem (ir c))); iexact HR
      isplitr; · iapply (inv_at part K (bar_mem (xl c))); iexact HR
      iapply (inv_at part K (bar_mem (xr c))); iexact HR
    isplitr
    · isplitr; · iapply (open_at part K (il c)); iexact HR
      isplitr; · iapply (open_at part K (ir c)); iexact HR
      isplitr; · iapply (open_at part K (xl c)); iexact HR
      iapply (open_at part K (xr c)); iexact HR
    isplitl [Htk]; · iexact Htk
    isplitl [Hat] <;> iassumption
  isplitl [HcB]; · iexact HcB
  iexact Hlev

/-! ## The tokens around the rings -/

def ilE : Dev nD ≃ Dev nD := ⟨il, ir, ir_il, il_ir⟩
def irE : Dev nD ≃ Dev nD := ⟨ir, il, il_ir, ir_il⟩
def xlE : Dev nD ≃ Dev nD := ⟨xl, xr, xr_xl, xl_xr⟩
def xrE : Dev nD ≃ Dev nD := ⟨xr, xl, xl_xr, xr_xl⟩
def tgtE (n : ℕ) : Dev nD ≃ Dev nD := ⟨tgt n, src n, src_tgt n, tgt_src n⟩

omit [FloatOps F] in
/-- The tokens by the cell's device. -/
theorem toks_eq : bigSep allToks (fun x => (dutyTok ER x.1 x.2.1 x.2.2 : sProp 𝕄))
    = iprop((bigSep Finset.univ fun c : Dev nD => bigSep Finset.univ fun d : Fin 4 => dutyTok ER (barCell c) 0 d)
      ∗ bigSep Finset.univ fun c : Dev nD => bigSep Finset.univ fun n : Fin 20 => iprop(dutyTok ER (sndCell c n) 0 0 ∗ dutyTok ER (rcvCell c n) 0 0)) := by
  unfold allToks
  rw [bigSep_map, bigSep_univ_prod, ← bigSep_sep']
  refine bigSep_congr fun c _ => ?_
  rw [bigSep_univ_sum]
  refine congrArg₂ (fun A B : sProp 𝕄 => iprop(A ∗ B)) rfl ?_
  rw [bigSep_univ_prod]
  exact bigSep_congr fun n _ => BI.bigSep_fin_two (fun k : Fin 2 => (dutyTok ER ((c : Thread nD τ), osem (n, k)) 0 0 : sProp 𝕄))

omit [FloatOps F] in
/-- The barrier's tokens, each with the neighbour that signals. -/
theorem bar_around : (bigSep Finset.univ fun c : Dev nD => bigSep Finset.univ fun d : Fin 4 => (dutyTok ER (barCell c) 0 d : sProp 𝕄))
    = bigSep Finset.univ fun c : Dev nD => barToks (F := F) c := by
  rw [bigSep_congr fun (c : Dev nD) _ => bigSep_fin4 (fun d : Fin 4 => (dutyTok ER (barCell c) 0 d : sProp 𝕄))]
  unfold barToks
  rw [bigSep_sep', bigSep_sep', bigSep_sep', bigSep_sep', bigSep_sep', bigSep_sep',
    bigSep_univ_equiv ilE (fun c : Dev nD => (dutyTok ER (barCell c) 0 0 : sProp 𝕄)),
    bigSep_univ_equiv irE (fun c : Dev nD => (dutyTok ER (barCell c) 0 1 : sProp 𝕄)),
    bigSep_univ_equiv xlE (fun c : Dev nD => (dutyTok ER (barCell c) 0 2 : sProp 𝕄)),
    bigSep_univ_equiv xrE (fun c : Dev nD => (dutyTok ER (barCell c) 0 3 : sProp 𝕄))]
  rfl

omit [FloatOps F] in
/-- The steps' tokens, the receipts' with the sender. -/
theorem step_around : (bigSep Finset.univ fun c : Dev nD => bigSep Finset.univ fun n : Fin 20 => (iprop(dutyTok ER (sndCell c n) 0 0 ∗ dutyTok ER (rcvCell c n) 0 0) : sProp 𝕄))
    = bigSep Finset.univ fun c : Dev nD => bigSep Finset.univ fun n : Fin 20 => iprop(dutyTok ER (sndCell c n) 0 0 ∗ dutyTok ER (rcvCell (tgt n.val c) n) 0 0) := by
  rw [big_comm, big_comm (Φ := fun (c : Dev nD) (n : Fin 20) => (iprop(dutyTok ER (sndCell c n) 0 0 ∗ dutyTok ER (rcvCell (tgt n.val c) n) 0 0) : sProp 𝕄))]
  refine bigSep_congr fun n _ => ?_
  rw [bigSep_sep', bigSep_sep', bigSep_univ_equiv (tgtE n.val) (fun c : Dev nD => (dutyTok ER (rcvCell c n) 0 0 : sProp 𝕄))]
  rfl

omit [FloatOps F] in
theorem opens_eq : bigSep dmaCells (fun g => (openTok ER g : sProp 𝕄))
    = bigSep Finset.univ fun c : Dev nD => bigSep Finset.univ fun n : Fin 20 => iprop(openTok ER (sndCell c n) ∗ openTok ER (rcvCell c n)) := by
  rw [bigSep_map, bigSep_univ_prod]
  refine bigSep_congr fun c _ => ?_
  rw [bigSep_univ_prod]
  exact bigSep_congr fun n _ => BI.bigSep_fin_two (fun k : Fin 2 => (openTok ER ((c : Thread nD τ), osem (n, k)) : sProp 𝕄))

/-- The exchange's cells funded: every invariant, and every device's share. -/
theorem fund : iprop((bigSep Finset.univ fun c : Dev nD => (semVal (barCell c) 0 : sProp 𝕄)) ∗ BI.own (ER launchEl))
    ⊢ (|={Set.univ}=> iprop(∃ K, records part K ∗ bigSep Finset.univ fun c : Dev nD => dealt (F := F) c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨Hv, Hu⟩
  imod (Rounds.fund_launch ER (ringRd part) cells_disj (fun g _ h => h) allToks) $$ [Hv Hu] with ⟨%K, -, #Hinv, #Hr, Hat, Hop, Htok⟩
  · isplitl [Hv]
    · iapply hv $$ Hv
    · iexact Hu
  imodintro
  iexists K
  isplitr
  · unfold records
    isplitr; · iexact Hinv
    iexact Hr
  ihave Ht := (Entails.of_eq (toks_eq (F := F))) $$ Htok
  icases Ht with ⟨Hb, Hs⟩
  unfold dealt
  iapply big_pair; isplitl [Hat]; · iapply hat $$ Hat
  iapply big_pair; isplitl [Hb]; · iapply (Entails.of_eq (bar_around (F := F))) $$ Hb
  iapply big_pair; isplitl [Hop]; · iapply (Entails.of_eq (opens_eq (F := F))) $$ Hop
  iapply (Entails.of_eq (step_around (F := F))) $$ Hs

end Cert.AllReduce
-- ==== Proof.Regs.lean ====
/-
  The two regions as records of the program's run: what each is entered with and what it leaves.
-/
module

public import proofs.«01_k».proof.Proof.Ghost

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] (m : (ℓ : Loc nD τ sig) → Buf (Elt F) ℓ)

local notation "𝕄" => MT nD τ sig Unit (Elt F) ℕ UU ℕ

def pdats : (p : Fin 2) → (c : Dev nD) → Dat τ (Elt F) Unit ℕ UU ℕ (Pipeline.pin (pcfgs (F := F)) adm p) c
  | 0 => dat0 m
  | 1 => dat1 m

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- Whatever a device owes at the launch is owed to a cell above the staging cells. -/
theorem OB_cut {c : Dev nD} {g : GSem nD τ sig} {u : Unit} (h : 0 < OB c g u) : u ∈ L g ∧ 0 < lv g u := by
  have hb : ∀ d : Dev nD, g = barCell d → u ∈ L g ∧ 0 < lv g u := by
    rintro d rfl
    exact ⟨by rw [L_tc]; exact Finset.mem_singleton_self _, Nat.one_pos⟩
  have ht : ∀ d : Dev nD, 0 < (tallyAt (barCell d) () 1 : CellTallies nD τ sig Unit) g u → g = barCell d := fun d h => by
    rw [tallyAt_apply] at h
    by_contra hne
    rw [if_neg (fun e => hne e.1)] at h
    exact absurd h (Nat.lt_irrefl 0)
  unfold OB at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · obtain ⟨n, -, rfl⟩ := Owe_pos h
          exact ⟨by rw [L_tc]; exact Finset.mem_singleton_self _, by rw [lv_rcv]; omega⟩
        · exact hb _ (ht _ h)
      · exact hb _ (ht _ h)
    · exact hb _ (ht _ h)
  · exact hb _ (ht _ h)

theorem stage_lv0 : ∀ (w : Fin 6) (s : Fin (spec0 w).nbuf), lvOf (.dma ((spec0 w).sem s)) = 0 := by decide +kernel
theorem stage_lv1 : ∀ (w : Fin 2) (s : Fin (spec1 w).nbuf), lvOf (.dma ((spec1 w).sem s)) = 0 := by decide +kernel

theorem arr0_sub : Pipeline.arrRefs (τ := τ) spec0 ⊆ Pipeline.ucRefs τ sig := by decide +kernel
theorem arr1_sub : Pipeline.arrRefs (τ := τ) spec1 ⊆ Pipeline.ucRefs τ sig := by decide +kernel
theorem uc_sub {b : DevRef τ sig} (h : b ∈ Pipeline.ucRefs τ sig) : b ∈ StableHlo.tcRefs τ sig := (Finset.mem_filter.mp h).1

/-- What region 0 is passed by. -/
def E0 (c : Dev nD) : sProp 𝕄 :=
  iprop((∃ Wd, owes (c : Thread nD τ) (OB c) Wd) ∗ emp ∗ (Tk (partA m) c ∗ ∃ r, prngReg c r))
/-- What the exchange leaves beside the buffers. -/
def E2 (c : Dev nD) : sProp 𝕄 := iprop(semVal (barCell c) 0 ∗ ∃ Wd, owes (c : Thread nD τ) (0 : CellTallies nD τ sig Unit) Wd)

theorem share0 (c : Dev nD) (w : Fin 6) : (dat0 m c).share w = fullShare := by unfold Dat.share; split <;> rfl
theorem share1 (c : Dev nD) (w : Fin 2) : (dat1 m c).share w = fullShare := by unfold Dat.share; split <;> rfl
theorem hin0 (c : Dev nD) : iprop(Pipeline.scopedRest (Pipeline.pin (pcfgs (F := F)) adm 0).spec c ∗ emp) ⊢ (pdats m 0 c).Φ 0 := by
  rw [show (pdats m 0 c).Φ 0 = Pipeline.scopedRest (Ix := Unit) (Name := ℕ) (U := UU) (Lvl := ℕ) (Val := Elt F) spec0 c from rfl]
  iintro ⟨H, -⟩; iexact H
theorem hout0 (c : Dev nD) : (pdats m 0 c).Φ (Fin.last (Pipeline.pin (pcfgs (F := F)) adm 0).N)
    ⊢ iprop(Pipeline.scopedRest (Pipeline.pin (pcfgs (F := F)) adm 0).spec c ∗ emp) := by
  rw [show (pdats m 0 c).Φ (Fin.last _) = Pipeline.scopedRest (Ix := Unit) (Name := ℕ) (U := UU) (Lvl := ℕ) (Val := Elt F) spec0 c from rfl]
  iintro H
  isplitl [H]; · iexact H
  iempintro
theorem cut0 : Pipeline.LevelCut (pcfgs (F := F)) adm () L lv 0 OB (fun _ => 0) :=
  ⟨fun c w s => by rw [L_tc]; exact Finset.mem_singleton_self _, fun c w s => (stage_lv0 w s).le, fun c g i h => OB_cut h⟩

set_option backward.isDefEq.respectTransparency.types false in
def reg0 : Pipeline.RegionSeg (pcfgs (F := F)) adm (pdats m) () defs₀ 𝒱₀ L lv 0 :=
  Pipeline.RegionSeg.ofHeldIn (pcfgs (F := F)) adm (pdats m) () defs₀ 𝒱₀ L lv 0 OB (Pipeline.ucRefs τ sig) (fun _ => iprop(emp)) (fun _ => iprop(emp))
    kit0 rfl (fun c => (body0 m c).loose) (fun _ _ => rfl) (fun _ => rfl) (share0 m) (hin0 m) (hout0 m) (fun _ => 0) cut0
    (fun c => iprop(Tk (partA m) c ∗ ∃ r, prngReg c r)) (V1 m) (fun c w => rfl)

theorem reg0_pre (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) spec0) (V1 m c) ∗ emp
    ∗ (StableHlo.held (c.tc : Thread nD τ) (Pipeline.ucRefs τ sig \ Pipeline.arrRefs (τ := τ) spec0) (V1 m c) ∗ (Tk (partA m) c ∗ ∃ r, prngReg c r)) ∗ ∃ Wd, owes (c : Thread nD τ) (OB c) Wd)
  rw [StableHlo.held_sub_split (c.tc : Thread nD τ) arr0_sub (V1 m c)]
  unfold E0
  iintro ⟨⟨Ha, Hu⟩, HO, -, HR⟩
  isplitl [Ha]; · iexact Ha
  isplitr; · iempintro
  isplitl [Hu HR]
  · isplitl [Hu]; · iexact Hu
    iexact HR
  iexact HO
theorem reg0_post (c : Dev nD) : (reg0 m).post c ⊢ iprop(StableHlo.held (c : Thread nD τ) (Pipeline.ucRefs τ sig) (VA m c) ∗ E0 m c) := by
  have e : (StableHlo.held (c : Thread nD τ) (Pipeline.ucRefs τ sig) (Pipeline.afterRegion (dat0 m c) (V1 m c)) : sProp 𝕄)
      = StableHlo.held (c : Thread nD τ) (Pipeline.ucRefs τ sig) (VA m c) :=
    StableHlo.held_congr (c : Thread nD τ) fun b hb => after0 m c b (uc_sub hb)
  show iprop(StableHlo.held (c.tc : Thread nD τ) (Pipeline.arrRefs (τ := τ) spec0) (Pipeline.afterRegion (dat0 m c) (V1 m c)) ∗ emp
    ∗ (StableHlo.held (c.tc : Thread nD τ) (Pipeline.ucRefs τ sig \ Pipeline.arrRefs (τ := τ) spec0) (V1 m c) ∗ (Tk (partA m) c ∗ ∃ r, prngReg c r)) ∗ ∃ Wd, owes (c : Thread nD τ) (OB c) Wd) ⊢ _
  unfold E0
  rw [← e, StableHlo.held_sub_split (c.tc : Thread nD τ) arr0_sub (Pipeline.afterRegion (dat0 m c) (V1 m c)),
    StableHlo.held_congr (c.tc : Thread nD τ) (S := Pipeline.ucRefs τ sig \ Pipeline.arrRefs (τ := τ) spec0) (V := Pipeline.afterRegion (dat0 m c) (V1 m c)) (V' := V1 m c)
      (Pipeline.afterRegion_off (dat0 m c) (V1 m c) (Pipeline.ucRefs τ sig))]
  iintro ⟨Ha, -, ⟨Hu, HR⟩, HO⟩
  isplitl [Ha Hu]
  · isplitl [Ha] <;> iassumption
  isplitl [HO]; · iexact HO
  isplitr; · iempintro
  iexact HR

/-- The exchange's valuations: as it is entered, and as it is left. -/
abbrev W1 (c : Dev nD) : Valuation τ sig (Elt F) := Pipeline.afterRegion (dat1 m c) (VA m c)

theorem hin1 (c : Dev nD) : iprop(Pipeline.scopedRest (Pipeline.pin (pcfgs (F := F)) adm 1).spec c ∗ (∃ r, prngReg c r) ∗ StableHlo.held (c.tc : Thread nD τ) ∅ (VA m c) ∗ Xk m c)
    ⊢ (pdats m 1 c).Φ 0 := by
  rw [show (pdats m 1 c).Φ 0 = iprop(Pipeline.scopedRest (Ix := Unit) (Name := ℕ) (U := UU) (Lvl := ℕ) (Val := Elt F) spec1 c ∗ (∃ r, prngReg c r) ∗ Xk m c) from rfl]
  iintro ⟨Hs, Hp, -, HK⟩
  isplitl [Hs]; · iexact Hs
  isplitl [Hp]; · iexact Hp
  iexact HK
theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) ∅ (W1 m c)
      ∗ Pipeline.ownSems0 osem c ∗ semVal (barCell c) 0) := by
  rw [show (pdats m 1 c).Φ (Fin.last _) = iprop(Pipeline.scopedRest (Ix := Unit) (Name := ℕ) (U := UU) (Lvl := ℕ) (Val := Elt F) spec1 c ∗ (∃ r, prngReg c r) ∗ sems20 (F := F) c ∗ semVal (barCell c) 0) from rfl,
    own_sems]
  unfold sems20 StableHlo.held
  rw [BI.bigSep_empty]
  iintro ⟨Hs, Hp, Ho, Hb⟩
  isplitl [Hs]; · iexact Hs
  isplitl [Hp]; · iexact Hp
  isplitr; · iempintro
  isplitl [Ho]; · iexact Ho
  iexact Hb

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem (by decide +kernel : Pipeline.OwnSemFacts spec1 osem)
    ∅ (Pipeline.ucRefs τ sig \ Pipeline.arrRefs (τ := τ) spec1) (Finset.empty_subset _) kit1 rfl (fun c => (body1 m c).loose)
    (fun _ => 0) OB (fun c => (zero_add _).symm) (fun _ => rfl) (fun _ => rfl) (share1 m)
    (VA m) (W1 m) (fun c b hb => Pipeline.afterRegion_off (dat1 m c) (VA m c) (Pipeline.ucRefs τ sig) b (by rwa [Finset.sdiff_empty] at hb))
    (Tk (partA m)) (fun c => semVal (barCell c) 0) (Xk m) (fun c => semVal (barCell c) 0) (open_all (partA m)) (hin1 m) (hout1 m)
    (fun c => by iintro H; imodintro; iexact H)
    (fun _ => 0)
    ⟨fun c w s => by rw [L_tc]; exact Finset.mem_singleton_self _, fun c w s => (stage_lv1 w s).le, fun c t g i h => by
      have e : (pdats m 1 c).owed t = if t.val = 0 then OB c else 0 := rfl
      rw [e] at h
      split at h
      · exact OB_cut h
      · exact absurd h (Nat.lt_irrefl 0)⟩
    (fun _ => iprop(emp))
    (fun c w => rfl) (fun c w => (Pipeline.afterRegion_arr (dat1 m c) (VA m c) winFacts1.arr_inj w).symm)

theorem reg1_pre (c : Dev nD) : iprop(StableHlo.held (c : Thread nD τ) (Pipeline.ucRefs τ sig) (VA m c) ∗ E0 m c) ⊢ (reg1 m).pre c := by
  show _ ⊢ iprop(StableHlo.held (c.tc : Thread nD τ) (Pipeline.arrRefs (τ := τ) spec1) (VA m c) ∗ (∃ r, prngReg c r)
    ∗ (StableHlo.held (c.tc : Thread nD τ) (Pipeline.ucRefs τ sig \ Pipeline.arrRefs (τ := τ) spec1) (VA m c) ∗ emp) ∗ Tk (partA m) c ∗ ∃ Wd, owes (c : Thread nD τ) (0 + OB c) Wd)
  rw [zero_add, StableHlo.held_sub_split (c.tc : Thread nD τ) arr1_sub (VA m c)]
  unfold E0
  iintro ⟨⟨Ha, Hu⟩, HO, -, HT, Hp⟩
  isplitl [Ha]; · iexact Ha
  isplitl [Hp]; · iexact Hp
  isplitl [Hu]
  · isplitl [Hu]; · iexact Hu
    iempintro
  isplitl [HT]; · iexact HT
  iexact HO
theorem reg1_post (c : Dev nD) : (reg1 m).post c ⊢ iprop(StableHlo.held (c : Thread nD τ) (Pipeline.ucRefs τ sig) (VB m c) ∗ E2 (F := F) c) := by
  show iprop(StableHlo.held (c.tc : Thread nD τ) (Pipeline.arrRefs (τ := τ) spec1) (W1 m c) ∗ (∃ r, prngReg c r)
    ∗ (StableHlo.held (c.tc : Thread nD τ) (Pipeline.ucRefs τ sig \ Pipeline.arrRefs (τ := τ) spec1) (W1 m c) ∗ emp) ∗ semVal (barCell c) 0
    ∗ ∃ Wd, owes (c : Thread nD τ) (0 : CellTallies nD τ sig Unit) Wd) ⊢ _
  have e : (StableHlo.held (c : Thread nD τ) (Pipeline.ucRefs τ sig) (W1 m c) : sProp 𝕄)
      = StableHlo.held (c : Thread nD τ) (Pipeline.ucRefs τ sig) (VB m c) :=
    StableHlo.held_congr (c : Thread nD τ) fun b hb => after1 m c b (uc_sub hb)
  unfold E2
  rw [← e, StableHlo.held_sub_split (c.tc : Thread nD τ) arr1_sub (W1 m c)]
  iintro ⟨Ha, -, ⟨Hu, -⟩, Hb, HO⟩
  isplitl [Ha Hu]
  · isplitl [Ha] <;> iassumption
  isplitl [Hb] <;> iassumption

end Cert.AllReduce
-- ==== Proof.RunMain.lean ====
/-
  The whole run on the 32 devices, from any memory with zero counters: it ends, no argument changed, every counter at zero, and the
  result on each device the exchange's sum.
-/
module

public import proofs.«01_k».proof.Proof.Regs

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg HostSeg)

variable {F : FTy → Type} [FloatOps F] (m : (ℓ : Loc nD τ sig) → Buf (Elt F) ℓ) (ρ : Dev nD → PrngReg)

local notation "𝕄" => MT nD τ sig Unit (Elt F) ℕ UU ℕ

/-! ## The credits of the launch -/

theorem one_bar (d d' c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg (fun e => h (congrArg (fun g : GSem nD τ sig => g.1.1) e.1).symm), if_neg h]
theorem four_bar : ∀ c : Dev nD, (∑ d : Dev nD, ((((0 + if xr d = c then 1 else 0) + if xl d = c then 1 else 0) + if ir d = c then 1 else 0) + if il d = c then 1 else 0)) = 4 := by
  decide +kernel
theorem owed_bar (d c : Dev nD) : OB d (barCell c) () = (((0 + if xr d = c then 1 else 0) + if xl d = c then 1 else 0) + if ir d = c then 1 else 0) + if il d = c then 1 else 0 := by
  have h0 : Owe 0 d (barCell c) () = 0 := by
    by_contra hne
    obtain ⟨n, -, e⟩ := Owe_pos (Nat.pos_of_ne_zero hne)
    cases congrArg Prod.snd e
  unfold OB
  simp only [Pi.add_apply, Finsupp.add_apply]
  rw [h0, one_bar _ d, one_bar _ d, one_bar _ d, one_bar _ d]
theorem bar_credit (c : Dev nD) :
    tallyOn (barCell c) (launchCredit (Pipeline.owing OB) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  exact four_bar c

theorem rcv_inj : Function.Injective rcvS := by decide +kernel
theorem owed_rcv (d c : Dev nD) (n : Fin 20) : OB d (rcvCell c n) () = if d = src n.val c then amt n.val else 0 := by
  have hb : ∀ e : Dev nD, (tallyAt (barCell e) () 1 : CellTallies nD τ sig Unit) (rcvCell c n) () = 0 := fun e => by
    rw [tallyAt_apply, if_neg]
    rintro ⟨h, -⟩
    cases congrArg Prod.snd h
  have hO : Owe 0 d (rcvCell c n) () = if d = src n.val c then amt n.val else 0 := by
    unfold Owe
    rw [Finset.sum_apply, Finsupp.finset_sum_apply, Finset.sum_eq_single n]
    · rw [tallyAt_apply]
      by_cases h : d = src n.val c
      · subst h; rw [tgt_src, if_pos ⟨rfl, rfl⟩, if_pos rfl]
      · rw [if_neg h, if_neg]
        rintro ⟨e, -⟩
        exact h ((congrArg (src n.val) (congrArg (fun g : GSem nD τ sig => g.1.1) e)).trans (src_tgt n.val d)).symm
    · intro k _ hk
      rw [tallyAt_apply, if_neg]
      rintro ⟨e, -⟩
      have e2 : (SemLoc.dma (rcvS n) : SemLoc sig) = .dma (rcvS k) := congrArg Prod.snd e
      exact hk (rcv_inj (by injection e2)).symm
    · intro h
      exact (h (Finset.mem_filter.mpr ⟨Finset.mem_univ n, Nat.zero_le n.val⟩)).elim
  unfold OB
  simp only [Pi.add_apply, Finsupp.add_apply]
  simp only [hb, hO, Nat.add_zero]
theorem rcv_credit (c : Dev nD) (n : Fin 20) :
    tallyOn (rcvCell c n) (launchCredit (Pipeline.owing OB) 0 (rcvCell c n)) = (tallyAt (rcvCell c n) () (amt n.val) : CellTallies nD τ sig Unit) := by
  unfold tallyAt; refine congrArg _ (Finsupp.ext fun u => ?_); cases u
  rw [Pipeline.launchCredit_owing, Finsupp.single_eq_same, Finset.sum_congr rfl fun d _ => owed_rcv d c n, Finset.sum_ite_eq' Finset.univ (src n.val c) fun _ => amt n.val,
    if_pos (Finset.mem_univ _)]

def rcvEmb : Fin 20 ↪ SemLoc sig := ⟨fun n => .dma (rcvS n), fun n k h => rcv_inj (by injection h)⟩

omit [FloatOps F] in
theorem credits_of (c : Dev nD) : (Pipeline.launchCred OB c : sProp 𝕄) ⊢ credits (F := F) c := by
  have hr : (bigSep (Finset.univ.map rcvEmb) fun sm : SemLoc sig => (cred (tallyOn ((c : Thread nD τ), sm) (launchCredit (Pipeline.owing OB) 0 ((c : Thread nD τ), sm))) : sProp 𝕄))
      = bigSep Finset.univ fun n : Fin 20 => cred (tallyAt (rcvCell c n) () (amt n.val)) := by
    rw [bigSep_map]
    exact bigSep_congr fun n _ => congrArg cred (rcv_credit c n)
  unfold Pipeline.launchCred credits
  rw [bigSep_univ_at _ (SemLoc.reg barS), bar_credit, ← hr]
  refine sep_mono_right (bigSep_subset ?_)
  intro sm h
  obtain ⟨n, -, rfl⟩ := Finset.mem_map.mp h
  exact Finset.mem_erase.mpr ⟨(fun e => by cases e), Finset.mem_univ _⟩

/-! ## The launch -/

/-- The launch element: the pipeline library's, and the exchange's cells'. -/
def u₀ : UU :=
  (initOf (Pipeline.cells (Pipeline.pin (pcfgs (F := F)) adm) cellOf_inj) (Pipeline.launchToks (Pipeline.pin (pcfgs (F := F)) adm) cellOf_inj), launchEl)

/-- The exchange's launch element rests with device 0 until the launch deals it. -/
def G (c : Dev nD) : sProp 𝕄 := if c = 0 then BI.own (ER launchEl) else iprop(emp)
omit [FloatOps F] in
theorem G_all : bigSep Finset.univ (G (F := F)) = BI.own (ER launchEl) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem unscoped_sems (c : Dev nD) : (unscopedSems0 c : sProp 𝕄) = semVal (barCell c) 0 := by
  unfold unscopedSems0
  rw [show (Finset.univ.filter fun sm : SemLoc sig => ¬ sm.isScoped .tc = true) = {SemLoc.reg barS} from by decide +kernel, BI.bigSep_singleton]

abbrev T₀ (c : Dev nD) : sProp 𝕄 := iprop(StableHlo.held (c : Thread nD τ) (Pipeline.ucRefs τ sig) (V0 m c) ∗ E0 m c)

/-- A device's launch holdings beside the exchange's ghost state. -/
def beside (c : Dev nD) : sProp 𝕄 :=
  iprop(StableHlo.held (c : Thread nD τ) (Pipeline.ucRefs τ sig) (V0 m c) ∗ owes (c : Thread nD τ) (OB c) ∅ ∗ credits (F := F) c ∗ prngReg c (ρ c))

theorem T₀_intro (K : GSem nD τ sig → ℕ) (c : Dev nD) : iprop(records (partA m) K ∗ (dealt (F := F) c ∗ beside m ρ c)) ⊢ T₀ m c := by
  unfold beside T₀ E0 Tk
  iintro ⟨#HR, Hd, Hh, HO, Hc, Hp⟩
  isplitl [Hh]; · iexact Hh
  isplitl [HO]; · iexists ∅; iexact HO
  isplitr; · iempintro
  isplitr [Hp]
  · isplitl [Hd]
    · iexists K
      isplitr; · iexact HR
      iexact Hd
    iexact Hc
  iexists (ρ c); iexact Hp

theorem launch :
    iprop((bigSep Finset.univ fun c : Dev nD => iprop(unscopedBufs c (fun b => m ((c : Thread nD τ).loc b)) ∗ unscopedSems0 c
          ∗ owes (c : Thread nD τ) (OB c) ∅ ∗ Pipeline.launchCred OB c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (OB c) ∅ ∗ Pipeline.launchCred OB c ∗ prngReg c (ρ c) ∗ G c)
      ⊢ (iprop(beside m ρ c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscoped_sems]
    unfold beside
    iintro ⟨Hh, Hus, HO, Hcr, Hp, HG⟩
    ihave Hc := (credits_of (F := F) c) $$ Hcr
    isplitl [Hh Hc HO Hp]
    · isplitl [Hh]; · iexact Hh
      isplitl [HO]; · iexact HO
      isplitl [Hc] <;> iassumption
    isplitl [Hus] <;> iassumption
  have hall : (bigSep Finset.univ fun c : Dev nD => iprop(unscopedBufs c (fun b => m ((c : Thread nD τ).loc b)) ∗ unscopedSems0 c
          ∗ owes (c : Thread nD τ) (OB c) ∅ ∗ Pipeline.launchCred OB c ∗ prngReg c (ρ c) ∗ G c))
      ⊢ (iprop((bigSep Finset.univ fun c : Dev nD => beside m ρ c) ∗ (bigSep Finset.univ fun c : Dev nD => (semVal (barCell c) 0 : sProp 𝕄)) ∗ BI.own (ER launchEl)) : sProp 𝕄) := by
    rw [← G_all (F := F), ← bigSep_sep', ← bigSep_sep']
    exact big_mono fun c _ => hcore c
  have hlast (K : GSem nD τ sig → ℕ) : iprop(records (partA m) K ∗ bigSep Finset.univ fun c : Dev nD => iprop(dealt (F := F) c ∗ beside m ρ c)) ⊢ bigSep Finset.univ (T₀ m) :=
    bigSep_with_persistent (R := records (partA m) K) fun c _ => T₀_intro m ρ K c
  iintro ⟨H, -⟩
  ihave H' := hall $$ H
  icases H' with ⟨HB, Hv, Hu⟩
  imod (fund (partA m)) $$ [Hv Hu] with ⟨%K, #HR, Hd⟩
  · isplitl [Hv]; · iexact Hv
    iexact Hu
  imodintro
  iapply (hlast K)
  isplitr; · iexact HR
  iapply big_pair
  isplitl [Hd]; · iexact Hd
  iexact HB

/-! ## The run -/

/-- The lines after the exchange. -/
def segLast : HostSeg (Ix := Unit) (Name := ℕ) (U := UU) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (VB m) (E2 (F := F))
/-- The lines before the first region. -/
def segFirst (c : Dev nD) : HostSeg (Ix := Unit) (Name := ℕ) (U := UU) (Lvl := ℕ) (pcfgs (F := F)) defs₀ 𝒱₀ L lv :=
  HostSeg.ofOps _ _ _ _ _ (Pipeline.ucRefs τ sig) (hostOps0 c)
    (fun op h => Pipeline.sub_ucRefs op ((List.forall_iff_forall_mem.mp (hostOps0_sub c)) op h))
    (fun op h => (List.forall_iff_forall_mem.mp (hostOps0_fresh c)) op h) (V0 m) (E0 m)
def items (c : Dev nD) : List (Seg (pcfgs (F := F)) adm (pdats m) () defs₀ 𝒱₀ L lv) :=
  [.host (segFirst m c), .region (reg0 m), .region (reg1 m), .host (segLast m)]

/-- The buffers at the end. -/
abbrev VC (c : Dev nD) : Valuation τ sig (Elt F) := StableHlo.after hostOps2 (VB m c)
abbrev Tₙ (c : Dev nD) : sProp 𝕄 := iprop(StableHlo.held (c : Thread nD τ) (Pipeline.ucRefs τ sig) (VC m c) ∗ semVal (barCell c) 0)

theorem VC_arg (c : Dev nD) (r : Ref sig .tc) (h2 : r ∉ hostOps2_W) (h1 : r ≠ main_v21) (h0 : r ≠ main_v20) (h : r ∉ hostOps0_W) :
    VC m c r = m ((c : Thread nD τ).loc r) :=
  (StableHlo.after_of_writes_sub hostOps2 _ hostOps2_writes h2).trans <| (VB_of m c r (StableHlo.devRef_ne_of_ne h1)).trans <|
    (VA_of m c r (StableHlo.devRef_ne_of_ne h0)).trans <| V1_of m c r h

theorem unscoped_bar : ∀ sm : SemLoc sig, sm.isScoped .tc = false → sm = .reg barS := by decide +kernel

set_option backward.isDefEq.respectTransparency.types false in
/-- Every buffer of every device that lasts is at the end what the last lines leave, and every counter is zero. -/
theorem run_all : θ_run defs (onTc (τ := τ) (main (F := F))) ⟨m, fun _ => 0, ρ⟩
    (fun r => (∀ c : Dev nD, ∀ b ∈ Pipeline.ucRefs τ sig, r.2.mem (c, b) = VC m c b) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Seg.run_eq_chain,
        show (items m c).map Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide)
    (O₀ := OB) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, reg0_pre m c, (reg0_post m c).trans (reg1_pre m c), reg1_post m c, by
      show iprop(StableHlo.held (c : Thread nD τ) (Pipeline.ucRefs τ sig) (VC m c) ∗ E2 (F := F) c) ⊢ iprop(Tₙ m c ∗ ∃ W, owes (c : Thread nD τ) (0 : CellTallies nD τ sig Unit) W)
      unfold E2
      iintro ⟨Hh, Hb, HO⟩
      isplitr [HO]
      · isplitl [Hh] <;> iassumption
      iexact HO⟩)
    (hinit := launch m ρ)
    (QY := fun c s => (∀ b ∈ Pipeline.ucRefs τ sig, s.mem (c, b) = VC m c b) ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (VC m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_bar sm hsm
      exact (h c).2⟩)

/-- THE RUN: from any memory with zero counters it terminates on every schedule, no argument is changed, every counter is zero, and the
    result on every device is the reshape of what the exchange left there. -/
theorem run_main : θ_run defs (onTc (τ := τ) (main (F := F))) ⟨m, fun _ => 0, ρ⟩
    (fun r => (∀ c : Dev nD, (r.2.mem ((c : Thread nD τ).loc main_v22) = VC m c main_v22)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => by
    obtain ⟨h, hs⟩ := h
    refine ⟨fun c => ⟨h c main_v22 (Finset.mem_filter.mpr ⟨StableHlo.devRef_mem_tcRefs main_v22, by decide⟩), ?_, ?_, ?_, ?_, ?_⟩, hs⟩
    · exact (h c main_arg0 (Finset.mem_filter.mpr ⟨StableHlo.devRef_mem_tcRefs main_arg0, by decide⟩)).trans (VC_arg m c main_arg0 (by decide) (by decide) (by decide) (by decide))
    · exact (h c main_arg1 (Finset.mem_filter.mpr ⟨StableHlo.devRef_mem_tcRefs main_arg1, by decide⟩)).trans (VC_arg m c main_arg1 (by decide) (by decide) (by decide) (by decide))
    · exact (h c main_arg2 (Finset.mem_filter.mpr ⟨StableHlo.devRef_mem_tcRefs main_arg2, by decide⟩)).trans (VC_arg m c main_arg2 (by decide) (by decide) (by decide) (by decide))
    · exact (h c main_arg3 (Finset.mem_filter.mpr ⟨StableHlo.devRef_mem_tcRefs main_arg3, by decide⟩)).trans (VC_arg m c main_arg3 (by decide) (by decide) (by decide) (by decide))
    · exact (h c main_arg4 (Finset.mem_filter.mpr ⟨StableHlo.devRef_mem_tcRefs main_arg4, by decide⟩)).trans (VC_arg m c main_arg4 (by decide) (by decide) (by decide) (by decide)))
    (run_all m ρ)

end Cert.AllReduce
-- ==== Proof.Same.lean ====
/-
  The kernel as printed for the hardware's floats and as printed for the extended reals: one program.
-/
module

public import proofs.«01_k».proof.Proof.Gen.Kernel
public import proofs.«01_k».proof.Proof.Gen.KernelIdeal

@[expose] public section

noncomputable section
namespace Cert.AllReduce
open Idealize.ShloMosaic Idealize.SL.Sem
variable {F : FTy → Type} [FloatOps F]

/-- The two printed programs have the same text: their body tables are one, label by label. -/
theorem defs₀Eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl
/-- And so are the tables of every region and pipeline. -/
theorem defsEq : Cert.Kernel.defs (F := F) = Cert.KernelIdeal.defs (F := F) := congrArg (Pipeline.defs Cert.KernelIdeal.pcfgs) defs₀Eq

end Cert.AllReduce

end
-- ==== Proof.Spec.lean ====
/-
  What one head of the attention is, over the extended reals, with its rows and columns named by numbers.
-/
module

public import Idealize.ShloMosaic.Lib.ValueIdx
public import Idealize.ShloMosaic.PureOps.Ideal.Laws

@[expose] public section

noncomputable section

namespace Cert.AllReduce

open Idealize.ShloMosaic

/-- The factor of the scores, the score of a masked pair and the value a row's maximum starts from: the numbers their float
    words are. -/
def scale : EReal := Ideal.ofBits .f32 0x3DB504F3#32
def low : EReal := Ideal.ofBits .f32 0xCE6E6B28#32
def bottom : EReal := Ideal.ofBits .f32 0xFF800000#32

/-- Query `i` sees key `j`: their blocks of 64 have the same number modulo four. -/
abbrev Near (i j : Fin 1024) : Prop := i.val / 64 % 4 = j.val / 64 % 4

/-- The score of query `i` and key `j` of one head. -/
def score (q k : Fin 1024 → Fin 128 → EReal) (i j : Fin 1024) : EReal := if Near i j then (∑ d, q i d * k j d) * scale else low

/-- A row's weights before they are divided by their sum, -/
def weight (s : Fin 1024 → EReal) (j : Fin 1024) : EReal := Ideal.exp (s j - Finset.univ.fold max bottom s)
/-- and after. -/
def soft (s : Fin 1024 → EReal) (j : Fin 1024) : EReal := Ideal.div (weight s j) (∑ l, weight s l)

/-- One head of the attention. -/
def attn (q k v : Fin 1024 → Fin 128 → EReal) (i : Fin 1024) (d : Fin 128) : EReal := ∑ j, soft (score q k i) j * v j d

end Cert.AllReduce

end
-- ==== Proof.Dots.lean ====
/-
  The kernel's three matrix products and its layout operations, read at an index over the extended reals.
-/
module

public import proofs.«01_k».proof.Proof.Compute
public import proofs.«01_k».proof.Proof.Spec
public import Idealize.ShloMosaic.Lib.Pipeline.Value

@[expose] public section

set_option maxRecDepth 16384

noncomputable section

namespace Cert.AllReduce

open Cert.KernelIdeal Cert.KernelIdeal.Gen
open Idealize.ShloMosaic Idealize.ShloMosaic.ValueIdx

/-- Rows times rows: the scores' product. -/
theorem mmScore (q k : FVec Ideal S1024x128 .f32) (i j : Fin 1024) :
    matmul dot_S1024x128_S1024x128_S1024x1024_1_1_0_0_n_n none q k (constant S1024x1024 .f32 0x00000000#32) (ix2 i j)
      = ∑ d : Fin 128, q (ix2 i d) * k (ix2 j d) := by
  refine (Ideal.matmul_constant_zero_apply dot_S1024x128_S1024x128_S1024x1024_1_1_0_0_n_n none q k (ix2 i j)).trans ?_
  refine Fintype.sum_equiv (contrEquiv1 dot_S1024x128_S1024x128_S1024x1024_1_1_0_0_n_n 128 rfl rfl) _ _ fun t => ?_
  have hl : dot_S1024x128_S1024x128_S1024x1024_1_1_0_0_n_n.lhsIdx (ix2 i j) t = ix2 i ((contrEquiv1 dot_S1024x128_S1024x128_S1024x1024_1_1_0_0_n_n 128 rfl rfl) t) := by
    funext a; fin_cases a <;> rfl
  have hr : dot_S1024x128_S1024x128_S1024x1024_1_1_0_0_n_n.rhsIdx (ix2 i j) t = ix2 j ((contrEquiv1 dot_S1024x128_S1024x128_S1024x1024_1_1_0_0_n_n 128 rfl rfl) t) := by
    funext a; fin_cases a <;> rfl
  rw [hl, hr]

/-- Rows times columns: the weights times the values. -/
theorem mmValue (w : FVec Ideal S1024x1024 .f32) (v : FVec Ideal S1024x128 .f32) (i : Fin 1024) (d : Fin 128) :
    matmul dot_S1024x1024_S1024x128_S1024x128_1_0_0_1_n_n none w v (constant S1024x128 .f32 0x00000000#32) (ix2 i d)
      = ∑ j : Fin 1024, w (ix2 i j) * v (ix2 j d) := by
  refine (Ideal.matmul_constant_zero_apply dot_S1024x1024_S1024x128_S1024x128_1_0_0_1_n_n none w v (ix2 i d)).trans ?_
  refine Fintype.sum_equiv (contrEquiv1 dot_S1024x1024_S1024x128_S1024x128_1_0_0_1_n_n 1024 rfl rfl) _ _ fun t => ?_
  have hl : dot_S1024x1024_S1024x128_S1024x128_1_0_0_1_n_n.lhsIdx (ix2 i d) t = ix2 i ((contrEquiv1 dot_S1024x1024_S1024x128_S1024x128_1_0_0_1_n_n 1024 rfl rfl) t) := by
    funext a; fin_cases a <;> rfl
  have hr : dot_S1024x1024_S1024x128_S1024x128_1_0_0_1_n_n.rhsIdx (ix2 i d) t = ix2 ((contrEquiv1 dot_S1024x1024_S1024x128_S1024x128_1_0_0_1_n_n 1024 rfl rfl) t) d := by
    funext a; fin_cases a <;> rfl
  rw [hl, hr]

/-- Rows times columns: the products with the square weights. -/
theorem mmSquare (x w : FVec Ideal S1024x1024 .f32) (i j : Fin 1024) :
    matmul dot_S1024x1024_S1024x1024_S1024x1024_1_0_0_1_n_n none x w (constant S1024x1024 .f32 0x00000000#32) (ix2 i j)
      = ∑ n : Fin 1024, x (ix2 i n) * w (ix2 n j) := by
  refine (Ideal.matmul_constant_zero_apply dot_S1024x1024_S1024x1024_S1024x1024_1_0_0_1_n_n none x w (ix2 i j)).trans ?_
  refine Fintype.sum_equiv (contrEquiv1 dot_S1024x1024_S1024x1024_S1024x1024_1_0_0_1_n_n 1024 rfl rfl) _ _ fun t => ?_
  have hl : dot_S1024x1024_S1024x1024_S1024x1024_1_0_0_1_n_n.lhsIdx (ix2 i j) t = ix2 i ((contrEquiv1 dot_S1024x1024_S1024x1024_S1024x1024_1_0_0_1_n_n 1024 rfl rfl) t) := by
    funext a; fin_cases a <;> rfl
  have hr : dot_S1024x1024_S1024x1024_S1024x1024_1_0_0_1_n_n.rhsIdx (ix2 i j) t = ix2 ((contrEquiv1 dot_S1024x1024_S1024x1024_S1024x1024_1_0_0_1_n_n 1024 rfl rfl) t) j := by
    funext a; fin_cases a <;> rfl
  rw [hl, hr]

/-- A loaded head without its unit axis. -/
theorem dropUnit {α : Type} (x : S1x1024x128.Idx → α) (j : Fin 1024) (d : Fin 128) :
    shapeCast S1024x128 x shapeCasts_S1x1024x128_S1024x128 (ix2 j d) = x (ix3 0 j d) :=
  shapeCast_apply x shapeCasts_S1x1024x128_S1024x128 (ix2 j d) (ix3 0 j d)
    ((Shape.rowMajor_val_three _).trans (Eq.trans (by show (0 * 1024 + j.val) * 128 + d.val = j.val * 128 + d.val; omega) (Shape.rowMajor_val_two _).symm))

/-- A row's number repeated along the row. -/
theorem alongRow {α : Type} (x : S1024.Idx → α) (i j : Fin 1024) :
    broadcastTo S1024x1024 (shapeCast S1024x1 x shapeCasts_S1024_S1024x1) broadcasts_S1024x1_S1024x1024 (ix2 i j) = x (ix1 i) :=
  (broadcastTo_apply _ broadcasts_S1024x1_S1024x1024 (ix2 i j) (ix2 i 0) (by intro a; fin_cases a <;> rfl)).trans
    (shapeCast_apply x shapeCasts_S1024_S1024x1 (ix2 i 0) (ix1 i)
      ((Shape.rowMajor_val_one _).trans (Eq.trans (by show i.val = i.val * 1 + 0; omega) (Shape.rowMajor_val_two _).symm)))

/-- The sum of a row. -/
theorem sumRow (x : FVec Ideal S1024x1024 .f32) (i : Fin 1024) :
    multiReduction .add [1] S1024 x 0x00000000#32 reduces_S1024x1024_S1024 (.inl rfl) rfl (ix1 i) = ∑ j : Fin 1024, x (ix2 i j) := by
  refine (Ideal.multiReduction_add_single x 0x00000000#32 reduces_S1024x1024_S1024 (.inl rfl) rfl (ix1 i)).trans ?_
  refine Finset.sum_congr rfl fun t _ => congrArg x ?_
  funext a; fin_cases a <;> rfl

/-- The maximum of a row. -/
theorem maxRow (x : FVec Ideal S1024x1024 .f32) (i : Fin 1024) :
    multiReduction .maximumf [1] S1024 x 0xFF800000#32 reduces_S1024x1024_S1024 (.inl rfl) rfl (ix1 i)
      = Finset.univ.fold max bottom fun j : Fin 1024 => x (ix2 i j) := by
  refine (Ideal.multiReduction_maximumf_single x 0xFF800000#32 reduces_S1024x1024_S1024 (.inl rfl) rfl (ix1 i)).trans ?_
  refine congrArg (Finset.univ.fold max bottom) (funext fun t => congrArg x ?_)
  funext a; fin_cases a <;> rfl

end Cert.AllReduce

end
-- ==== Proof.Mask.lean ====
/-
  The block mask: both programs compute, of a row's or column's number, the number of its block of 64 modulo four, with
  floor-division and floor-remainder written out in words.
-/
module

public import proofs.«01_k».proof.Proof.Compute
public import proofs.«01_k».proof.Proof.Spec

@[expose] public section

set_option maxRecDepth 16384

noncomputable section

namespace Cert.AllReduce

open Cert.KernelIdeal Cert.KernelIdeal.Gen
open Idealize.ShloMosaic Idealize.ShloMosaic.ValueIdx

/-- The kernel's floor-division of a word by 64. -/
def quo (x : BitVec 32) : BitVec 32 :=
  Scalar.select (IntOp.andi (IntOp.cmpi .ne (IntOp.subi ((IntOp.cmpi .sgt x 0#32).setWidth 32) ((IntOp.cmpi .slt x 0#32).setWidth 32)) 1#32)
    (IntOp.cmpi .ne (IntOp.remsi .vector x 64#32) 0#32)) (IntOp.subi (IntOp.divsi .vector x 64#32) 1#32) (IntOp.divsi .vector x 64#32)

/-- The kernel's floor-remainder of a word by 4. -/
def rem4 (x : BitVec 32) : BitVec 32 :=
  Scalar.select (IntOp.andi (IntOp.xori (IntOp.cmpi .slt (IntOp.remsi .vector x 4#32) 0#32) 0#1) (IntOp.cmpi .ne (IntOp.remsi .vector x 4#32) 0#32))
    (IntOp.addi (IntOp.remsi .vector x 4#32) 4#32) (IntOp.remsi .vector x 4#32)

theorem maskOf_words (i j : Fin 1024) :
    maskOf (ix2 i j) = IntOp.cmpi .eq (rem4 (quo (BitVec.ofNat 32 (0 * 1024 + i.val)))) (rem4 (quo (BitVec.ofNat 32 (0 * 1024 + j.val)))) := rfl

/-- The word of a number's block modulo four. -/
theorem rem4_quo : ∀ i : Fin 1024, rem4 (quo (BitVec.ofNat 32 (0 * 1024 + i.val))) = BitVec.ofNat 32 (i.val / 64 % 4) := by decide +kernel

theorem eq_word (a b : ℕ) (ha : a < 4) (hb : b < 4) : IntOp.cmpi .eq (BitVec.ofNat 32 a) (BitVec.ofNat 32 b) = if a = b then 1#1 else 0#1 := by
  interval_cases a <;> interval_cases b <;> rfl

/-- **The kernel's mask**: query `i` sees key `j` when their blocks agree modulo four. -/
theorem maskOf_apply (i j : Fin 1024) : maskOf (ix2 i j) = if Near i j then 1#1 else 0#1 := by
  rw [maskOf_words, rem4_quo, rem4_quo, eq_word _ _ (Nat.mod_lt _ (by decide)) (Nat.mod_lt _ (by decide))]

end Cert.AllReduce

end
-- ==== Proof.Head.lean ====
/-
  One head of the kernel over the extended reals: the body's operations on the head's queries, keys and values are the attention
  of those three.
-/
module

public import proofs.«01_k».proof.Proof.Dots
public import proofs.«01_k».proof.Proof.Mask

@[expose] public section

set_option maxRecDepth 16384

noncomputable section

namespace Cert.AllReduce

open Cert.KernelIdeal Cert.KernelIdeal.Gen
open Idealize.ShloMosaic Idealize.ShloMosaic.ValueIdx

/-- The masked scores, as the body computes them. -/
def scoreV (mask : IVec S1024x1024 1) (q : FVec Ideal S1024x128 .f32) (k : FVec Ideal S1024x128 .f32) : FVec Ideal S1024x1024 .f32 :=
  select mask (mulf (matmul dot_S1024x128_S1024x128_S1024x1024_1_1_0_0_n_n none q k (constant S1024x1024 .f32 0x00000000#32))
    (broadcast S1024x1024 (Scalar.ofBits (F := Ideal) .f32 0x3DB504F3#32))) (broadcast S1024x1024 (Scalar.ofBits (F := Ideal) .f32 0xCE6E6B28#32))

/-- The weights before their division, of the scores. -/
def weightV (s : FVec Ideal S1024x1024 .f32) : FVec Ideal S1024x1024 .f32 :=
  exp (subf s (broadcastTo S1024x1024 (shapeCast S1024x1 (multiReduction .maximumf [1] S1024 s 0xFF800000#32 reduces_S1024x1024_S1024 (.inl rfl) rfl)
    shapeCasts_S1024_S1024x1) broadcasts_S1024x1_S1024x1024))

/-- The weights after it. -/
def softV (w : FVec Ideal S1024x1024 .f32) : FVec Ideal S1024x1024 .f32 :=
  divf w (broadcastTo S1024x1024 (shapeCast S1024x1 (multiReduction .add [1] S1024 w 0x00000000#32 reduces_S1024x1024_S1024 (.inl rfl) rfl)
    shapeCasts_S1024_S1024x1) broadcasts_S1024x1_S1024x1024)

/-- One head. -/
def headV (mask : IVec S1024x1024 1) (q k v : FVec Ideal S1024x128 .f32) : FVec Ideal S1024x128 .f32 :=
  matmul dot_S1024x1024_S1024x128_S1024x128_1_0_0_1_n_n none (softV (weightV (scoreV mask q k))) v (constant S1024x128 .f32 0x00000000#32)

theorem scoreV_apply (q k : FVec Ideal S1024x128 .f32) (i j : Fin 1024) :
    scoreV maskOf q k (ix2 i j) = score (fun i d => q (ix2 i d)) (fun j d => k (ix2 j d)) i j := by
  have e : scoreV maskOf q k (ix2 i j) = Scalar.select (maskOf (ix2 i j))
      (matmul dot_S1024x128_S1024x128_S1024x1024_1_1_0_0_n_n none q k (constant S1024x1024 .f32 0x00000000#32) (ix2 i j) * scale) low := rfl
  rw [e, maskOf_apply, mmScore]
  unfold score
  by_cases h : Near i j
  · rw [if_pos h, if_pos h, select_one]
  · rw [if_neg h, if_neg h, select_zero]

theorem weightV_apply (s : FVec Ideal S1024x1024 .f32) (i j : Fin 1024) : weightV s (ix2 i j) = weight (fun l => s (ix2 i l)) j := by
  have e : weightV s (ix2 i j) = Ideal.exp (s (ix2 i j) - broadcastTo S1024x1024 (shapeCast S1024x1 (multiReduction .maximumf [1] S1024 s 0xFF800000#32
    reduces_S1024x1024_S1024 (.inl rfl) rfl) shapeCasts_S1024_S1024x1) broadcasts_S1024x1_S1024x1024 (ix2 i j)) := rfl
  rw [e, alongRow, maxRow]; rfl

theorem softV_apply (w : FVec Ideal S1024x1024 .f32) (i j : Fin 1024) :
    softV w (ix2 i j) = Ideal.div (w (ix2 i j)) (∑ l : Fin 1024, w (ix2 i l)) := by
  have e : softV w (ix2 i j) = Ideal.div (w (ix2 i j)) (broadcastTo S1024x1024 (shapeCast S1024x1 (multiReduction .add [1] S1024 w 0x00000000#32
    reduces_S1024x1024_S1024 (.inl rfl) rfl) shapeCasts_S1024_S1024x1) broadcasts_S1024x1_S1024x1024 (ix2 i j)) := rfl
  rw [e, alongRow, sumRow]

/-- **One head of the kernel is the attention of its queries, keys and values.** -/
theorem headV_apply (q k v : FVec Ideal S1024x128 .f32) (i : Fin 1024) (d : Fin 128) :
    headV maskOf q k v (ix2 i d) = attn (fun i d => q (ix2 i d)) (fun j d => k (ix2 j d)) (fun j d => v (ix2 j d)) i d := by
  unfold headV attn
  rw [mmValue]
  refine Finset.sum_congr rfl fun j _ => congrArg (· * v (ix2 j d)) ?_
  have es : (fun l => scoreV maskOf q k (ix2 i l)) = score (fun i d => q (ix2 i d)) (fun j d => k (ix2 j d)) i := funext fun l => scoreV_apply q k i l
  rw [softV_apply, weightV_apply, es]
  unfold soft
  exact congrArg (Ideal.div _) (Finset.sum_congr rfl fun l _ => by rw [weightV_apply, es])

end Cert.AllReduce

end
-- ==== Proof.Part.lean ====
/-
  What a device adds to the all-reduce, over the extended reals: its eight heads side by side, times its rows of the output
  weights.
-/
module

public import proofs.«01_k».proof.Proof.Head

@[expose] public section

set_option maxRecDepth 16384

noncomputable section

namespace Cert.AllReduce

open Cert.KernelIdeal Cert.KernelIdeal.Gen
open Idealize.ShloMosaic Idealize.ShloMosaic.ValueIdx

theorem sliceHead : ∀ h : Fin 8, S1024x1024.Slices ![0, 128 * h.val] S1024x128 := by decide
theorem inbHead : ∀ (h : Fin 8) (a : Fin 3), (![h.val, 0, 0] : Fin 3 → ℕ) a + S1x1024x128.size a ≤ S8x1024x128.size a := by decide

/-- Head `h` of the device, as the body computes it. -/
def pieceV (q : FVec Ideal S1024x1024 .f32) (k v : Heads Ideal) (h : Fin 8) : FVec Ideal S1024x128 .f32 :=
  headV maskOf (extractStridedSlice S1024x128 ![0, 128 * h.val] q (sliceHead h))
    (shapeCast S1024x128 (ldK k h.val (inbHead h)) shapeCasts_S1x1024x128_S1024x128)
    (shapeCast S1024x128 (ldV v h.val (inbHead h)) shapeCasts_S1x1024x128_S1024x128)

/-- The body's heads, side by side. -/
def sideV (q : FVec Ideal S1024x1024 .f32) (k v : Heads Ideal) : FVec Ideal S1024x1024 .f32 :=
  concatenate S1024x1024 1 (List.ofFn fun h : Fin 8 => ⟨S1024x128, pieceV q k v h⟩)
    concatenates_S1024x128_S1024x128_S1024x128_S1024x128_S1024x128_S1024x128_S1024x128_S1024x128_S1024x1024_d1

theorem heads_eq (q : FVec Ideal S1024x1024 .f32) (k v : Heads Ideal) (w : Mat Ideal) :
    heads q k v w = shapeCast S32x32x1024 (matmul dot_S1024x1024_S1024x1024_S1024x1024_1_0_0_1_n_n none (sideV q k v)
      (shapeCast S1024x1024 w shapeCasts_S1024x1024_S1024x1024) (constant S1024x1024 .f32 0x00000000#32)) shapeCasts_S1024x1024_S32x32x1024 := rfl

theorem ldK_apply (k : Heads Ideal) (h : Fin 8) (j : Fin 1024) (d : Fin 128) : ldK k h.val (inbHead h) (ix3 0 j d) = k (ix3 h j d) := by
  refine congrArg k ?_
  funext a
  have e : (((View.whole cc0_stg2_0).emb ((rHead h.val (inbHead h)).emb (ix3 0 j d))) a).val
      = (![h.val, 0, 0] : Fin 3 → ℕ) a + 1 * ((ix3 0 j d : S1x1024x128.Idx) a).val := rfl
  refine Fin.ext (e.trans ?_)
  fin_cases a
  · show h.val + 1 * 0 = h.val; omega
  · show 0 + 1 * j.val = j.val; omega
  · show 0 + 1 * d.val = d.val; omega

theorem ldV_apply (v : Heads Ideal) (h : Fin 8) (j : Fin 1024) (d : Fin 128) : ldV v h.val (inbHead h) (ix3 0 j d) = v (ix3 h j d) := ldK_apply v h j d

/-- Column `n` of the heads side by side is column `n % 128` of head `n / 128`. -/
abbrev hd (n : Fin 1024) : Fin 8 := ⟨n.val / 128, by omega⟩
abbrev hc (n : Fin 1024) : Fin 128 := ⟨n.val % 128, by omega⟩
/-- Column `d` of head `h` among the columns of the queries. -/
abbrev qc (h : Fin 8) (d : Fin 128) : Fin 1024 := ⟨128 * h.val + d.val, by omega⟩

theorem pieceV_apply (q : FVec Ideal S1024x1024 .f32) (k v : Heads Ideal) (h : Fin 8) (i : Fin 1024) (d : Fin 128) :
    pieceV q k v h (ix2 i d) = attn (fun i d => q (ix2 i (qc h d))) (fun j d => k (ix3 h j d)) (fun j d => v (ix3 h j d)) i d := by
  unfold pieceV
  rw [headV_apply]
  congr 1
  · funext i d
    exact extractStridedSlice_apply _ q (sliceHead h) (ix2 i d) (ix2 i (qc h d)) (by intro a; fin_cases a <;> simp)
  · funext j d
    rw [dropUnit, ldK_apply]
  · funext j d
    rw [dropUnit, ldV_apply]

theorem sideV_apply (q : FVec Ideal S1024x1024 .f32) (k v : Heads Ideal) (i n : Fin 1024) :
    sideV q k v (ix2 i n) = attn (fun i d => q (ix2 i (qc (hd n) d))) (fun j d => k (ix3 (hd n) j d)) (fun j d => v (ix3 (hd n) j d)) i (hc n) := by
  refine Eq.trans ?_ (pieceV_apply q k v (hd n) i (hc n))
  exact concatenate_ofFn_apply (t := S1024x1024) (s₁ := S1024x128) 1 (pieceV q k v) _ rfl 128 rfl (ix2 i n : S1024x1024.Idx) (hd n) rfl (ix2 i (hc n) : S1024x128.Idx) rfl
    (by intro b hb; fin_cases b <;> first | rfl | exact absurd rfl hb)

theorem queries_apply (x wq : Mat Ideal) (i n : Fin 1024) : k0_pay2 x wq (ix2 i n) = ∑ e : Fin 1024, x (ix2 i e) * wq (ix2 e n) := by
  have e : k0_pay2 x wq = matmul dot_S1024x1024_S1024x1024_S1024x1024_1_0_0_1_n_n none (shapeCast S1024x1024 x shapeCasts_S1024x1024_S1024x1024)
      (shapeCast S1024x1024 wq shapeCasts_S1024x1024_S1024x1024) (constant S1024x1024 .f32 0x00000000#32) := rfl
  rw [e, shapeCast_self, shapeCast_self, mmSquare]

/-- **What a device adds**, row `32 a + b`, column `o`. -/
theorem partOf_apply (x wq : Mat Ideal) (k v : Heads Ideal) (wo : Mat Ideal) (a b : Fin 32) (o : Fin 1024) :
    partOf x wq k v wo (ix3 a b o)
      = ∑ n : Fin 1024, attn (fun i d => ∑ e : Fin 1024, x (ix2 i e) * wq (ix2 e (qc (hd n) d))) (fun j d => k (ix3 (hd n) j d))
          (fun j d => v (ix3 (hd n) j d)) ⟨32 * a.val + b.val, by omega⟩ (hc n) * wo (ix2 n o) := by
  unfold partOf
  rw [heads_eq, shapeCast_self, shapeCast_apply _ shapeCasts_S1024x1024_S32x32x1024 (ix3 a b o) (ix2 ⟨32 * a.val + b.val, by omega⟩ o)
    ((Shape.rowMajor_val_two _).trans (Eq.trans (by show (32 * a.val + b.val) * 1024 + o.val = (a.val * 32 + b.val) * 1024 + o.val; omega) (Shape.rowMajor_val_three _).symm)),
    mmSquare]
  refine Finset.sum_congr rfl fun n _ => congrArg (· * wo (ix2 n o)) ?_
  rw [sideV_apply]
  congr 1
  funext i d
  exact queries_apply x wq i _

end Cert.AllReduce

end
-- ==== Proof.HostIn.lean ====
/-
  What the host prepares for a device's compute body: its eight heads of the keys and the values, and the hidden states as a
  matrix.
-/
module

public import proofs.«01_k».proof.Proof.Part
public import Idealize.ShloMosaic.Lib.WordCmp
public import Idealize.ShloMosaic.Lib.StableHlo.RunClose

@[expose] public section

set_option maxRecDepth 16384

noncomputable section

namespace Cert.AllReduce

open Cert.KernelIdeal Cert.KernelIdeal.Gen
open Idealize.ShloMosaic Idealize.ShloMosaic.ValueIdx Idealize.ShloMosaic.TcCoe

variable {F : FTy → Type} [FloatOps F]

/-- The first of the device's heads, as the host computes it: eight times the device's number. -/
def firstHead (c : Dev nD) : IVec S_ 32 :=
  select (cmpi .slt (muli (id (Host.remui (Host.divui (constantI S_ 32 (Dev.word c)) (constantI S_ 32 1#32)) (constantI S_ 32 32#32))) (constantI S_ 32 8#32)) (constantI S_ 32 0#32))
    (addi (muli (id (Host.remui (Host.divui (constantI S_ 32 (Dev.word c)) (constantI S_ 32 1#32)) (constantI S_ 32 32#32))) (constantI S_ 32 8#32)) (constantI S_ 32 256#32))
    (muli (id (Host.remui (Host.divui (constantI S_ 32 (Dev.word c)) (constantI S_ 32 1#32)) (constantI S_ 32 32#32))) (constantI S_ 32 8#32))

/-- Eight heads of an array from head `w` on, heads first. -/
def headsFrom (w : IVec S_ 32) (x : S1x1024x256x128.Idx → F .f32) : Heads F :=
  transpose S8x1024x128 [1, 0, 2] (Host.dynamicSlice S1024x8x128 (shapeCast S1024x256x128 x shapeCasts_S1x1024x256x128_S1024x256x128)
    (fun k => ((![constantI S_ 32 0#32, w, constantI S_ 32 0#32] : Fin 3 → IVec S_ 32) k (Shape.Idx.first h_S_)).toInt) sliceFits_S1024x256x128_S1024x8x128)
    transposes_S1024x8x128_S8x1024x128_1_0_2

set_option maxHeartbeats 400000 in
theorem after_v17 (c : Dev nD) (X : Valuation τ sig (Elt F)) :
    StableHlo.after (hostOps0 c) X (Proc.devRef .tc main_v17) = headsFrom (firstHead c) (X (Proc.devRef .tc main_arg2)) := by
  after_results_simp_entrywise
  rfl

set_option maxHeartbeats 400000 in
theorem after_v18 (c : Dev nD) (X : Valuation τ sig (Elt F)) :
    StableHlo.after (hostOps0 c) X (Proc.devRef .tc main_v18) = headsFrom (firstHead c) (X (Proc.devRef .tc main_arg3)) := by
  after_results_simp_entrywise
  rfl

set_option maxHeartbeats 400000 in
theorem after_v19 (c : Dev nD) (X : Valuation τ sig (Elt F)) :
    StableHlo.after (hostOps0 c) X (Proc.devRef .tc main_v19) = shapeCast S1024x1024 (X (Proc.devRef .tc main_arg0)) shapeCasts_S1x1024x1024_S1024x1024 := by
  after_results_simp
  rfl

theorem firstHead_toInt : ∀ c : Dev nD, (firstHead c (Shape.Idx.first h_S_)).toInt = ((8 * c.val : ℕ) : ℤ) := by decide +kernel

theorem sliceFrom : ∀ c : Dev nD, S1024x256x128.Slices ![0, 8 * c.val, 0] S1024x8x128 := by decide +kernel

/-- Head `h` of device `c` among all 256. -/
abbrev gh (c : Dev nD) (h : Fin 8) : Fin 256 := ⟨8 * c.val + h.val, by have := c.isLt; simp only [nD] at this; omega⟩

theorem headsFrom_apply (c : Dev nD) (x : S1x1024x256x128.Idx → F .f32) (h : Fin 8) (j : Fin 1024) (d : Fin 128) :
    headsFrom (firstHead c) x (ix3 h j d) = x (ix4 0 j (gh c h) d) := by
  unfold headsFrom
  rw [transpose_apply [1, 0, 2] _ transposes_S1024x8x128_S8x1024x128_1_0_2 (ix3 h j d) (ix3 j h d) (by intro b; fin_cases b <;> rfl),
    WordCmp.dynamicSlice_eq_extract S1024x8x128 _ _ sliceFits_S1024x256x128_S1024x8x128 ![0, 8 * c.val, 0] (sliceFrom c)
      (by intro a; fin_cases a; exacts [rfl, firstHead_toInt c, rfl]),
    extractStridedSlice_apply _ _ (sliceFrom c) (ix3 j h d) (ix3 j (gh c h) d) (by intro a; fin_cases a <;> simp)]
  exact shapeCast_apply x shapeCasts_S1x1024x256x128_S1024x256x128 (ix3 j (gh c h) d) (ix4 0 j (gh c h) d)
    ((Shape.rowMajor_val_four _).trans (Eq.trans (by
      show ((0 * 1024 + j.val) * 256 + (gh c h).val) * 128 + d.val = (j.val * 256 + (gh c h).val) * 128 + d.val; omega) (Shape.rowMajor_val_three _).symm))

theorem hidden_apply (x : S1x1024x1024.Idx → F .f32) (i e : Fin 1024) :
    shapeCast S1024x1024 x shapeCasts_S1x1024x1024_S1024x1024 (ix2 i e) = x (ix3 0 i e) :=
  shapeCast_apply x shapeCasts_S1x1024x1024_S1024x1024 (ix2 i e) (ix3 0 i e)
    ((Shape.rowMajor_val_three _).trans (Eq.trans (by show (0 * 1024 + i.val) * 1024 + e.val = i.val * 1024 + e.val; omega) (Shape.rowMajor_val_two _).symm))

end Cert.AllReduce

end
-- ==== Proof.RingSum.lean ====
/-
  The ring adds up every device's rows: after its twenty steps each row of each device's accumulator is the sum over the 32
  devices of that row, whatever commutative addition is meant.
-/
module

public import proofs.«01_k».proof.Proof.Ring

@[expose] public section

set_option maxRecDepth 16384

namespace Cert.AllReduce

open Cert.KernelIdeal Cert.KernelIdeal.Gen
open Idealize.ShloMosaic

/-- The devices whose parts are added up in row `r` of device `c` before step `n`, for steps up to the tenth. -/
def Tr : ℕ → Dev nD → ℕ → List (Dev nD)
  | 0, c, _ => [c]
  | n + 1, c, r => if rcvRow n c r then Tr n c r ++ Tr n (src n c) r else Tr n c r

/-- The device whose row `r`, before step 10, device `c` holds `k` steps later. -/
def Own : ℕ → Dev nD → ℕ → Dev nD
  | 0, c, _ => c
  | k + 1, c, r => if rcvRow (10 + k) c r then Own k (src (10 + k) c) r else Own k c r

/-- The device at which row `r` is complete before step 10: the one before member `r / 4` of its group, in the group before
    group `r % 4`. -/
def home (r : Fin 32) : Dev nD := ⟨8 * ((r.val + 3) % 4) + (r.val / 4 + 7) % 8, by simp only [nD]; omega⟩

section
variable {M : Type} [AddCommMonoid M] (part : Dev nD → S32x32x1024.Idx → M)

theorem St_tr (i : S32x32x1024.Idx) : ∀ (n : ℕ) (_ : n ≤ 10) (c : Dev nD),
    St (· + ·) part n c i = ((Tr n c (i 0).val).map fun d => part d i).sum
  | 0, _, c => by simp [St, Tr]
  | n + 1, h, c => by
    have e1 := St_tr i n (by omega) c
    have e2 := St_tr i n (by omega) (src n c)
    unfold St Tr
    by_cases hr : rcvRow n c (i 0).val
    · rw [if_pos hr, if_pos (by omega), if_pos hr, List.map_append, List.sum_append, e1, e2]
    · rw [if_neg hr, if_neg hr, e1]

theorem St_own (i : S32x32x1024.Idx) : ∀ (k : ℕ) (c : Dev nD), St (· + ·) part (10 + k) c i = St (· + ·) part 10 (Own k c (i 0).val) i
  | 0, c => rfl
  | k + 1, c => by
    rw [show 10 + (k + 1) = (10 + k) + 1 from rfl]
    unfold Own
    rw [St.eq_2]
    by_cases hr : rcvRow (10 + k) c (i 0).val
    · rw [if_pos hr, if_neg (by omega), if_pos hr, St_own i k]
    · rw [if_neg hr, if_neg hr, St_own i k]

theorem own_home : ∀ (c : Dev nD) (r : Fin 32), Own 10 c r.val = home r := by decide +kernel
theorem tr_home : ∀ r : Fin 32, (Tr 10 (home r) r.val).Perm (List.finRange nD) := by decide +kernel

/-- **The all-reduce is the sum over the devices.** -/
theorem St_sum (c : Dev nD) (i : S32x32x1024.Idx) : St (· + ·) part 20 c i = ∑ d : Dev nD, part d i := by
  have h0 : (i 0).val < 32 := (i 0).isLt
  have ho : Own 10 c (i 0).val = home ⟨(i 0).val, h0⟩ := own_home c ⟨(i 0).val, h0⟩
  rw [show (20 : ℕ) = 10 + 10 from rfl, St_own, St_tr part i 10 le_rfl, ho,
    ((tr_home ⟨(i 0).val, h0⟩).map fun d => part d i).sum_eq, ← List.ofFn_eq_map, List.sum_ofFn]

end

end Cert.AllReduce
-- ==== Proof.Out.lean ====
/-
  The kernel's result over the extended reals, a function of the devices' arguments: the sum over the devices of what each adds.
-/
module

public import proofs.«01_k».proof.Proof.HostIn
public import proofs.«01_k».proof.Proof.RingSum
public import proofs.«01_k».proof.Proof.RunMain

@[expose] public section

set_option maxRecDepth 16384

noncomputable section

namespace Cert.AllReduce

open Cert.KernelIdeal Cert.KernelIdeal.Gen
open Idealize.ShloMosaic hiding ix1 ix2 ix3 ix4
open Idealize.ShloMosaic.ValueIdx Idealize.ShloMosaic.TcCoe

/-- The result before its last reshape, and after. -/
theorem after_v22 {F : FTy → Type} [FloatOps F] (X : Valuation τ sig (Elt F)) :
    StableHlo.after hostOps2 X (Proc.devRef .tc main_v22) = shapeCast S1x1024x1024 (X (Proc.devRef .tc main_v21)) shapeCasts_S32x32x1024_S1x1024x1024 := by
  after_results_simp
  rfl

theorem result_apply {α : Type} (x : S32x32x1024.Idx → α) (i o : Fin 1024) :
    shapeCast S1x1024x1024 x shapeCasts_S32x32x1024_S1x1024x1024 (ix3 0 i o)
      = x (ix3 ⟨i.val / 32, by omega⟩ ⟨i.val % 32, by omega⟩ o) :=
  shapeCast_apply x shapeCasts_S32x32x1024_S1x1024x1024 (ix3 0 i o) (ix3 ⟨i.val / 32, by omega⟩ ⟨i.val % 32, by omega⟩ o)
    ((Shape.rowMajor_val_three _).trans (Eq.trans (by
      show (i.val / 32 * 32 + i.val % 32) * 1024 + o.val = (0 * 1024 + i.val) * 1024 + o.val; omega) (Shape.rowMajor_val_three _).symm))

theorem acc_sum (part : Dev nD → AllBuf Ideal) (c : Dev nD) (i : S32x32x1024.Idx) :
    acc part 20 c i = ∑ d : Dev nD, part d i := St_sum (M := EReal) part c i

/-- What a device adds, of its arguments: hidden states `x`, its columns `wq` of the query weights, all keys and values, its rows
    `wo` of the output weights. -/
def addend (c : Dev nD) (x : S1x1024x1024.Idx → EReal) (wq : S1024x1024.Idx → EReal) (k v : S1x1024x256x128.Idx → EReal) (wo : S1024x1024.Idx → EReal)
    (i o : Fin 1024) : EReal :=
  ∑ n : Fin 1024, attn (fun i d => ∑ e : Fin 1024, x (ix3 0 i e) * wq (ix2 e (qc (hd n) d))) (fun j d => k (ix4 0 j (gh c (hd n)) d))
    (fun j d => v (ix4 0 j (gh c (hd n)) d)) i (hc n) * wo (ix2 n o)

theorem partOf_addend (c : Dev nD) (x : S1x1024x1024.Idx → EReal) (wq : S1024x1024.Idx → EReal) (k v : S1x1024x256x128.Idx → EReal) (wo : S1024x1024.Idx → EReal)
    (X : Mat Ideal) (hX : X = shapeCast S1024x1024 x shapeCasts_S1x1024x1024_S1024x1024) (K V : Heads Ideal)
    (hK : K = headsFrom (F := Ideal) (firstHead c) k) (hV : V = headsFrom (F := Ideal) (firstHead c) v) (i o : Fin 1024) :
    partOf X wq K V wo (ix3 ⟨i.val / 32, by omega⟩ ⟨i.val % 32, by omega⟩ o) = addend c x wq k v wo i o := by
  subst hX hK hV
  rw [partOf_apply]
  unfold addend
  have hi : (⟨32 * (i.val / 32) + i.val % 32, by omega⟩ : Fin 1024) = i := Fin.ext (by show 32 * (i.val / 32) + i.val % 32 = i.val; omega)
  refine Finset.sum_congr rfl fun n _ => congrArg (· * wo (ix2 n o)) ?_
  simp only [hidden_apply (F := Ideal), headsFrom_apply (F := Ideal)]
  rw [hi]

variable (m : (ℓ : Loc nD τ sig) → Buf (Elt Ideal) ℓ)

theorem partA_addend (c : Dev nD) (i o : Fin 1024) :
    partA m c (ix3 ⟨i.val / 32, by omega⟩ ⟨i.val % 32, by omega⟩ o)
      = addend c (m ((c : Thread nD τ).loc main_arg0)) (m ((c : Thread nD τ).loc main_arg1)) (m ((c : Thread nD τ).loc main_arg2))
          (m ((c : Thread nD τ).loc main_arg3)) (m ((c : Thread nD τ).loc main_arg4)) i o := by
  unfold partA
  rw [V1_of m c main_arg1 (by decide), V1_of m c main_arg4 (by decide)]
  exact partOf_addend c _ _ _ _ _ _ (after_v19 c (V0 m c)) _ _ (after_v17 c (V0 m c)) (after_v18 c (V0 m c)) i o

/-- **The kernel's result**: on every device, the sum over all devices of what each adds. -/
theorem result_sum (c : Dev nD) (i o : Fin 1024) :
    (VC m c main_v22 : S1x1024x1024.Idx → EReal) (ix3 0 i o)
      = ∑ d : Dev nD, addend d (m ((d : Thread nD τ).loc main_arg0)) (m ((d : Thread nD τ).loc main_arg1)) (m ((d : Thread nD τ).loc main_arg2))
          (m ((d : Thread nD τ).loc main_arg3)) (m ((d : Thread nD τ).loc main_arg4)) i o := by
  have e : (VC m c main_v22 : S1x1024x1024.Idx → EReal) = shapeCast S1x1024x1024 (totalA m c) shapeCasts_S32x32x1024_S1x1024x1024 :=
    (after_v22 (VB m c)).trans (congrArg (fun y => shapeCast S1x1024x1024 y shapeCasts_S32x32x1024_S1x1024x1024) (VB_v21 m c))
  rw [e, result_apply]
  refine (acc_sum (partA m) c _).trans (Finset.sum_congr rfl fun d _ => partA_addend m d i o)

end Cert.AllReduce

end
-- ==== Proof.RefMask.lean ====
/-
  The reference's block mask, read at a query and a key.
-/
module

public import proofs.«01_k».proof.Proof.Gen.ReferenceIdeal
public import proofs.«01_k».proof.Proof.Spec
public import Idealize.ShloMosaic.Lib.Pipeline.Value

@[expose] public section

set_option maxRecDepth 16384

noncomputable section

namespace Cert.AllReduce.Reference

open Cert.ReferenceIdeal Cert.ReferenceIdeal.Gen
open Idealize.ShloMosaic
open Idealize.ShloMosaic.ValueIdx

/-- Every row's number divided by 64, as the reference computes it. -/
def blocks : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The divisor four. -/
def four : IVec S_ 32 := select (cmpi .eq (id (constantI S_ 32 4#32)) (constantI S_ 32 0#32)) (constantI S_ 32 1#32) (id (constantI S_ 32 4#32))

/-- The remainder by four of every entry of `x`. -/
def modFour (s : Shape) (b : S_.BroadcastsInDim s ![]) (x : IVec s 32) : IVec s 32 :=
  select (andi (cmpi .ne (cmpi .slt (Host.remsi x (broadcastInDim s ![] b four)) (broadcastInDim s ![] b (constantI S_ 32 0#32))) (broadcastInDim s ![] b (cmpi .slt four (constantI S_ 32 0#32))))
      (cmpi .ne (Host.remsi x (broadcastInDim s ![] b four)) (broadcastInDim s ![] b (constantI S_ 32 0#32))))
    (addi (Host.remsi x (broadcastInDim s ![] b four)) (broadcastInDim s ![] b four)) (Host.remsi x (broadcastInDim s ![] b four))

/-- The reference's mask. -/
def mask : IVec S1024x1024 1 :=
  ori (cmpi .eq (broadcastInDim S1024x1024 ![0, 1] bcast_S1024x1_S1024x1024_0_1 (broadcastInDim S1024x1 ![0] bcast_S1024_S1024x1_0 blocks))
      (broadcastInDim S1024x1024 ![0, 1] bcast_S1x1024_S1024x1024_0_1 (broadcastInDim S1x1024 ![1] bcast_S1024_S1x1024_1 blocks)))
    (cmpi .eq (broadcastInDim S1024x1024 ![0, 1] bcast_S1x1024_S1024x1024_0_1 (modFour S1x1024 bcast_S_S1x1024 (broadcastInDim S1x1024 ![1] bcast_S1024_S1x1024_1 blocks)))
      (broadcastInDim S1024x1024 ![0, 1] bcast_S1024x1_S1024x1024_0_1 (modFour S1024x1 bcast_S_S1024x1 (broadcastInDim S1024x1 ![0] bcast_S1024_S1024x1_0 blocks))))

/-- The remainder by four of one word. -/
def mod4 (x : BitVec 32) : BitVec 32 := modFour S_ (by decide) (fun _ => x) (Shape.Idx.first (by decide))

theorem mask_words (i j : Fin 1024) :
    mask (ix2 i j) = IntOp.ori (IntOp.cmpi .eq (blocks (ix1 i)) (blocks (ix1 j))) (IntOp.cmpi .eq (mod4 (blocks (ix1 j))) (mod4 (blocks (ix1 i)))) := by
  have ec {α : Type} (x : S1024x1.Idx → α) : broadcastInDim S1024x1024 ![0, 1] bcast_S1024x1_S1024x1024_0_1 x (ix2 i j) = x (ix2 i 0) :=
    broadcastInDim_apply _ _ x (ix2 i j) (ix2 i 0) (by intro a; fin_cases a <;> rfl)
  have er {α : Type} (x : S1x1024.Idx → α) : broadcastInDim S1024x1024 ![0, 1] bcast_S1x1024_S1024x1024_0_1 x (ix2 i j) = x (ix2 0 j) :=
    broadcastInDim_apply _ _ x (ix2 i j) (ix2 0 j) (by intro a; fin_cases a <;> rfl)
  have bc : broadcastInDim S1024x1 ![0] bcast_S1024_S1024x1_0 blocks (ix2 i 0) = blocks (ix1 i) :=
    broadcastInDim_apply _ _ blocks (ix2 i 0) (ix1 i) (by intro a; fin_cases a; rfl)
  have br : broadcastInDim S1x1024 ![1] bcast_S1024_S1x1024_1 blocks (ix2 0 j) = blocks (ix1 j) :=
    broadcastInDim_apply _ _ blocks (ix2 0 j) (ix1 j) (by intro a; fin_cases a; rfl)
  have mc (s : Shape) (b : S_.BroadcastsInDim s ![]) (x : IVec s 32) (k : s.Idx) : modFour s b x k = mod4 (x k) := rfl
  show IntOp.ori (IntOp.cmpi .eq (broadcastInDim S1024x1024 ![0, 1] bcast_S1024x1_S1024x1024_0_1 (broadcastInDim S1024x1 ![0] bcast_S1024_S1024x1_0 blocks) (ix2 i j))
      (broadcastInDim S1024x1024 ![0, 1] bcast_S1x1024_S1024x1024_0_1 (broadcastInDim S1x1024 ![1] bcast_S1024_S1x1024_1 blocks) (ix2 i j)))
    (IntOp.cmpi .eq (broadcastInDim S1024x1024 ![0, 1] bcast_S1x1024_S1024x1024_0_1 (modFour S1x1024 bcast_S_S1x1024 (broadcastInDim S1x1024 ![1] bcast_S1024_S1x1024_1 blocks)) (ix2 i j))
      (broadcastInDim S1024x1024 ![0, 1] bcast_S1024x1_S1024x1024_0_1 (modFour S1024x1 bcast_S_S1024x1 (broadcastInDim S1024x1 ![0] bcast_S1024_S1024x1_0 blocks)) (ix2 i j))) = _
  rw [ec, er, er, ec, mc, mc, bc, br]

theorem blocks_word : ∀ i : Fin 1024, blocks (ix1 i) = BitVec.ofNat 32 (i.val / 64) := by decide +kernel

theorem near_word : ∀ a b : Fin 16, IntOp.ori (IntOp.cmpi .eq (BitVec.ofNat 32 a.val) (BitVec.ofNat 32 b.val)) (IntOp.cmpi .eq (mod4 (BitVec.ofNat 32 b.val)) (mod4 (BitVec.ofNat 32 a.val)))
    = if a.val % 4 = b.val % 4 then 1#1 else 0#1 := by decide +kernel

/-- **The reference's mask**: query `i` sees key `j` when their blocks agree modulo four. -/
theorem mask_apply (i j : Fin 1024) : mask (ix2 i j) = if Near i j then 1#1 else 0#1 := by
  rw [mask_words, blocks_word, blocks_word]
  exact near_word ⟨i.val / 64, by omega⟩ ⟨j.val / 64, by omega⟩

/-- Whether a query sees any key, as the reference computes it. -/
def seen : IVec S1024 1 := Host.reduce IntOp.ori mask (constantI S_ 1 0#1) reducesTo_S1024x1024_S1024_d1 h_S_

theorem fold_ori {n : ℕ} (f : Fin n → BitVec 1) (i : Fin n) (h : f i = 1#1) : Finset.univ.fold IntOp.ori 0#1 f = 1#1 := by
  rw [← Finset.insert_erase (Finset.mem_univ i), Finset.fold_insert (Finset.notMem_erase i _), h]
  generalize Finset.fold IntOp.ori 0#1 f _ = b
  revert b; decide

/-- Every query sees a key: itself. -/
theorem seen_apply (i : Fin 1024) : seen (ix1 i) = 1#1 := by
  unfold seen
  rw [Host.reduce_eq_fold_single IntOp.ori mask (constantI S_ 1 0#1) reducesTo_S1024x1024_S1024_d1 (by decide) h_S_ (ix1 i)]
  refine fold_ori _ i ?_
  have e : (Shape.Reduces.lift (by decide : S1024x1024.Reduces [1] S1024) (ix1 i) i : S1024x1024.Idx) = ix2 i i := by
    funext a; fin_cases a <;> rfl
  exact (congrArg mask e).trans ((mask_apply i i).trans (if_pos rfl))

end Cert.AllReduce.Reference

end
-- ==== Proof.RefDots.lean ====
/-
  The reference's four products and its two reductions, read at an index over the extended reals.
-/
module

public import proofs.«01_k».proof.Proof.RefMask

@[expose] public section

set_option maxRecDepth 16384

noncomputable section

namespace Cert.AllReduce.Reference

open Cert.ReferenceIdeal Cert.ReferenceIdeal.Gen
open Idealize.ShloMosaic
open Idealize.ShloMosaic.ValueIdx

/-- The hidden states times the query weights. -/
theorem dotQuery (x : FVec Ideal S1x1024x1024 .f32) (w : FVec Ideal S1024x32768 .f32) (i : Fin 1024) (n : Fin 32768) :
    Host.dotGeneral dot_S1x1024x1024_S1024x32768_S1x1024x32768_2_0_01_1_n_n none x w (ix3 0 i n) = ∑ e : Fin 1024, x (ix3 0 i e) * w (ix2 e n) := by
  refine (Ideal.dotGeneral_apply dot_S1x1024x1024_S1024x32768_S1x1024x32768_2_0_01_1_n_n none _ x w (ix3 0 i n)).trans ?_
  refine Fintype.sum_equiv (contrEquiv1 dot_S1x1024x1024_S1024x32768_S1x1024x32768_2_0_01_1_n_n 1024 rfl rfl) _ _ fun t => ?_
  have hl : dot_S1x1024x1024_S1024x32768_S1x1024x32768_2_0_01_1_n_n.lhsIdx (ix3 0 i n) t
      = ix3 0 i ((contrEquiv1 dot_S1x1024x1024_S1024x32768_S1x1024x32768_2_0_01_1_n_n 1024 rfl rfl) t) := by funext a; fin_cases a <;> rfl
  have hr : dot_S1x1024x1024_S1024x32768_S1x1024x32768_2_0_01_1_n_n.rhsIdx (ix3 0 i n) t
      = ix2 ((contrEquiv1 dot_S1x1024x1024_S1024x32768_S1x1024x32768_2_0_01_1_n_n 1024 rfl rfl) t) n := by funext a; fin_cases a <;> rfl
  rw [hl, hr]

/-- The queries times the keys, head by head. -/
theorem dotScore (q k : FVec Ideal S1x1024x256x128 .f32) (h : Fin 256) (i j : Fin 1024) :
    Host.dotGeneral dot_S1x1024x256x128_S1x1024x256x128_S1x256x1024x1024_3_3_1_1_02_02 none q k (ix4 0 h i j)
      = ∑ d : Fin 128, q (ix4 0 i h d) * k (ix4 0 j h d) := by
  refine (Ideal.dotGeneral_apply dot_S1x1024x256x128_S1x1024x256x128_S1x256x1024x1024_3_3_1_1_02_02 none _ q k (ix4 0 h i j)).trans ?_
  refine Fintype.sum_equiv (contrEquiv1 dot_S1x1024x256x128_S1x1024x256x128_S1x256x1024x1024_3_3_1_1_02_02 128 rfl rfl) _ _ fun t => ?_
  have hl : dot_S1x1024x256x128_S1x1024x256x128_S1x256x1024x1024_3_3_1_1_02_02.lhsIdx (ix4 0 h i j) t
      = ix4 0 i h ((contrEquiv1 dot_S1x1024x256x128_S1x1024x256x128_S1x256x1024x1024_3_3_1_1_02_02 128 rfl rfl) t) := by funext a; fin_cases a <;> rfl
  have hr : dot_S1x1024x256x128_S1x1024x256x128_S1x256x1024x1024_3_3_1_1_02_02.rhsIdx (ix4 0 h i j) t
      = ix4 0 j h ((contrEquiv1 dot_S1x1024x256x128_S1x1024x256x128_S1x256x1024x1024_3_3_1_1_02_02 128 rfl rfl) t) := by funext a; fin_cases a <;> rfl
  rw [hl, hr]

/-- The values times the weights, head by head. -/
theorem dotValue (v : FVec Ideal S1x1024x256x128 .f32) (w : FVec Ideal S1x256x1024x1024 .f32) (h : Fin 256) (d : Fin 128) (i : Fin 1024) :
    Host.dotGeneral dot_S1x1024x256x128_S1x256x1024x1024_S1x256x128x1024_1_3_3_2_02_01 none v w (ix4 0 h d i)
      = ∑ j : Fin 1024, v (ix4 0 j h d) * w (ix4 0 h i j) := by
  refine (Ideal.dotGeneral_apply dot_S1x1024x256x128_S1x256x1024x1024_S1x256x128x1024_1_3_3_2_02_01 none _ v w (ix4 0 h d i)).trans ?_
  refine Fintype.sum_equiv (contrEquiv1 dot_S1x1024x256x128_S1x256x1024x1024_S1x256x128x1024_1_3_3_2_02_01 1024 rfl rfl) _ _ fun t => ?_
  have hl : dot_S1x1024x256x128_S1x256x1024x1024_S1x256x128x1024_1_3_3_2_02_01.lhsIdx (ix4 0 h d i) t
      = ix4 0 ((contrEquiv1 dot_S1x1024x256x128_S1x256x1024x1024_S1x256x128x1024_1_3_3_2_02_01 1024 rfl rfl) t) h d := by funext a; fin_cases a <;> rfl
  have hr : dot_S1x1024x256x128_S1x256x1024x1024_S1x256x128x1024_1_3_3_2_02_01.rhsIdx (ix4 0 h d i) t
      = ix4 0 h i ((contrEquiv1 dot_S1x1024x256x128_S1x256x1024x1024_S1x256x128x1024_1_3_3_2_02_01 1024 rfl rfl) t) := by funext a; fin_cases a <;> rfl
  rw [hl, hr]

/-- The heads side by side times the output weights. -/
theorem dotOutput (x : FVec Ideal S1x1024x32768 .f32) (w : FVec Ideal S32768x1024 .f32) (i o : Fin 1024) :
    Host.dotGeneral dot_S1x1024x32768_S32768x1024_S1x1024x1024_2_0_01_1_n_n none x w (ix3 0 i o) = ∑ n : Fin 32768, x (ix3 0 i n) * w (ix2 n o) := by
  refine (Ideal.dotGeneral_apply dot_S1x1024x32768_S32768x1024_S1x1024x1024_2_0_01_1_n_n none _ x w (ix3 0 i o)).trans ?_
  refine Fintype.sum_equiv (contrEquiv1 dot_S1x1024x32768_S32768x1024_S1x1024x1024_2_0_01_1_n_n 32768 rfl rfl) _ _ fun t => ?_
  have hl : dot_S1x1024x32768_S32768x1024_S1x1024x1024_2_0_01_1_n_n.lhsIdx (ix3 0 i o) t
      = ix3 0 i ((contrEquiv1 dot_S1x1024x32768_S32768x1024_S1x1024x1024_2_0_01_1_n_n 32768 rfl rfl) t) := by funext a; fin_cases a <;> rfl
  have hr : dot_S1x1024x32768_S32768x1024_S1x1024x1024_2_0_01_1_n_n.rhsIdx (ix3 0 i o) t
      = ix2 ((contrEquiv1 dot_S1x1024x32768_S32768x1024_S1x1024x1024_2_0_01_1_n_n 32768 rfl rfl) t) o := by funext a; fin_cases a <;> rfl
  rw [hl, hr]

theorem lastAxis : S1x256x1024x1024.Reduces [3] S1x256x1024 := by decide

theorem lift_last (h : Fin 256) (i j : Fin 1024) : (lastAxis.lift (ix3 0 h i) j : S1x256x1024x1024.Idx) = ix4 0 h i j := by
  funext a; fin_cases a <;> rfl

/-- The maximum along the keys. -/
theorem maxKeys (x : FVec Ideal S1x256x1024x1024 .f32) (h : Fin 256) (i : Fin 1024) :
    Host.reduce FloatOps.maximumf x (constant S_ .f32 0xFF800000#32) reducesTo_S1x256x1024x1024_S1x256x1024_d3 h_S_ (ix3 0 h i)
      = Finset.univ.fold max bottom fun j : Fin 1024 => x (ix4 0 h i j) := by
  rw [Host.reduce_eq_fold_single FloatOps.maximumf x _ reducesTo_S1x256x1024x1024_S1x256x1024_d3 lastAxis h_S_ (ix3 0 h i)]
  exact congrArg (Finset.univ.fold max bottom) (funext fun j => congrArg x (lift_last h i j))

/-- The sum along the keys. -/
theorem sumKeys (x : FVec Ideal S1x256x1024x1024 .f32) (h : Fin 256) (i : Fin 1024) :
    Host.reduceAdd x (constant S_ .f32 0x00000000#32) reducesTo_S1x256x1024x1024_S1x256x1024_d3 h_S_ (ix3 0 h i)
      = ∑ j : Fin 1024, x (ix4 0 h i j) := by
  refine (Ideal.hostReduceAdd_single reducesTo_S1x256x1024x1024_S1x256x1024_d3 lastAxis x (Ideal.ofBits .f32 0x00000000#32) (ix3 0 h i)).trans ?_
  rw [Ideal.ofBits_zero_f32, zero_add]
  exact Finset.sum_congr rfl fun j _ => congrArg x (lift_last h i j)

end Cert.AllReduce.Reference

end
-- ==== Proof.RefStages.lean ====
/-
  The reference over the extended reals, stage by stage: its result is every head's attention side by side, times the output
  weights.
-/
module

public import proofs.«01_k».proof.Proof.RefDots
public import proofs.«01_k».proof.Proof.Gen.ReferenceIdeal.Run

@[expose] public section

set_option maxRecDepth 16384

noncomputable section

namespace Cert.AllReduce.Reference

open Cert.ReferenceIdeal Cert.ReferenceIdeal.Gen
open Idealize.ShloMosaic
open Idealize.ShloMosaic.ValueIdx

/-- The queries, head by head. -/
def queries (x : FVec Ideal S1x1024x1024 .f32) (wq : FVec Ideal S1024x32768 .f32) : FVec Ideal S1x1024x256x128 .f32 :=
  shapeCast _ (Host.dotGeneral dot_S1x1024x1024_S1024x32768_S1x1024x32768_2_0_01_1_n_n none x wq) shapeCasts_S1x1024x32768_S1x1024x256x128

/-- The masked scores. -/
def scores (q k : FVec Ideal S1x1024x256x128 .f32) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 mask))
    (mulf (Host.dotGeneral dot_S1x1024x256x128_S1x1024x256x128_S1x256x1024x1024_3_3_1_1_02_02 none q k)
      (broadcastInDim S1x256x1024x1024 ![] bcast_S_S1x256x1024x1024 (constant S_ .f32 0x3DB504F3#32)))
    (broadcastInDim S1x256x1024x1024 ![] bcast_S_S1x256x1024x1024 (id (constant S_ .f32 0xCE6E6B28#32)))

/-- The weights before their division. -/
def weights (s : FVec Ideal S1x256x1024x1024 .f32) : FVec Ideal S1x256x1024x1024 .f32 :=
  Host.exp (subf s (broadcastInDim S1x256x1024x1024 ![0, 1, 2, 3] bcast_S1x256x1024x1_S1x256x1024x1024_0_1_2_3
    (broadcastInDim S1x256x1024x1 ![0, 1, 2] bcast_S1x256x1024_S1x256x1024x1_0_1_2
      (Host.reduce FloatOps.maximumf s (constant S_ .f32 0xFF800000#32) reducesTo_S1x256x1024x1024_S1x256x1024_d3 h_S_))))

/-- What the weights of a row are divided by. -/
def sums (w : FVec Ideal S1x256x1024x1024 .f32) : FVec Ideal S1x256x1024x1 .f32 :=
  select (broadcastInDim S1x256x1024x1 ![0, 1, 2, 3] bcast_S1x1x1024x1_S1x256x1024x1_0_1_2_3 (broadcastInDim S1x1x1024x1 ![2] bcast_S1024_S1x1x1024x1_2 seen))
    (broadcastInDim S1x256x1024x1 ![0, 1, 2] bcast_S1x256x1024_S1x256x1024x1_0_1_2
      (Host.reduceAdd w (constant S_ .f32 0x00000000#32) reducesTo_S1x256x1024x1024_S1x256x1024_d3 h_S_))
    (broadcastInDim S1x256x1024x1 ![] bcast_S_S1x256x1024x1 (id (constant S_ .f32 0x3F800000#32)))

/-- The weights after it. -/
def softs (w : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 seen))
    (Host.divf w (broadcastInDim S1x256x1024x1024 ![0, 1, 2, 3] bcast_S1x256x1024x1_S1x256x1024x1024_0_1_2_3 (sums w)))
    (broadcastInDim S1x256x1024x1024 ![] bcast_S_S1x256x1024x1024 (id (constant S_ .f32 0x00000000#32)))

/-- The heads side by side. -/
def sides (v : FVec Ideal S1x1024x256x128 .f32) (w : FVec Ideal S1x256x1024x1024 .f32) : FVec Ideal S1x1024x32768 .f32 :=
  shapeCast _ (transpose S1x1024x256x128 [0, 3, 1, 2] (Host.dotGeneral dot_S1x1024x256x128_S1x256x1024x1024_S1x256x128x1024_1_3_3_2_02_01 none v w)
    transposes_S1x256x128x1024_S1x1024x256x128_0_3_1_2) shapeCasts_S1x1024x256x128_S1x1024x32768

/-- The whole reference. -/
def whole (x : FVec Ideal S1x1024x1024 .f32) (wq : FVec Ideal S1024x32768 .f32) (k v : FVec Ideal S1x1024x256x128 .f32) (wo : FVec Ideal S32768x1024 .f32) :
    FVec Ideal S1x1024x1024 .f32 :=
  Host.dotGeneral dot_S1x1024x32768_S32768x1024_S1x1024x1024_2_0_01_1_n_n none (sides v (softs (weights (scores (queries x wq) k)))) wo

/-- Column `d` of head `h` among all columns of the queries; the head and the place in it of a column. -/
abbrev wc (h : Fin 256) (d : Fin 128) : Fin 32768 := ⟨128 * h.val + d.val, by omega⟩
abbrev wh (n : Fin 32768) : Fin 256 := ⟨n.val / 128, by omega⟩
abbrev wd (n : Fin 32768) : Fin 128 := ⟨n.val % 128, by omega⟩

theorem queries_apply (x : FVec Ideal S1x1024x1024 .f32) (wq : FVec Ideal S1024x32768 .f32) (i : Fin 1024) (h : Fin 256) (d : Fin 128) :
    queries x wq (ix4 0 i h d) = ∑ e : Fin 1024, x (ix3 0 i e) * wq (ix2 e (wc h d)) := by
  unfold queries
  rw [shapeCast_apply _ shapeCasts_S1x1024x32768_S1x1024x256x128 (ix4 0 i h d) (ix3 0 i (wc h d))
    ((Shape.rowMajor_val_three _).trans (Eq.trans (by
      show (0 * 1024 + i.val) * 32768 + (128 * h.val + d.val) = ((0 * 1024 + i.val) * 256 + h.val) * 128 + d.val; omega) (Shape.rowMajor_val_four _).symm))]
  exact dotQuery x wq i (wc h d)

theorem overHeads {α : Type} (x : S1024x1024.Idx → α) (h : Fin 256) (i j : Fin 1024) :
    broadcastInDim S1x256x1024x1024 ![0, 1, 2, 3] bcast_S1x1x1024x1024_S1x256x1024x1024_0_1_2_3
      (broadcastInDim S1x1x1024x1024 ![2, 3] bcast_S1024x1024_S1x1x1024x1024_2_3 x) (ix4 0 h i j) = x (ix2 i j) :=
  (broadcastInDim_apply _ _ _ (ix4 0 h i j) (ix4 0 0 i j) (by intro a; fin_cases a <;> rfl)).trans
    (broadcastInDim_apply _ _ x (ix4 0 0 i j) (ix2 i j) (by intro a; fin_cases a <;> rfl))

theorem overKeys {α : Type} (x : S1x256x1024x1.Idx → α) (h : Fin 256) (i j : Fin 1024) :
    broadcastInDim S1x256x1024x1024 ![0, 1, 2, 3] bcast_S1x256x1024x1_S1x256x1024x1024_0_1_2_3 x (ix4 0 h i j) = x (ix4 0 h i 0) :=
  broadcastInDim_apply _ _ x (ix4 0 h i j) (ix4 0 h i 0) (by intro a; fin_cases a <;> rfl)

theorem asColumn {α : Type} (x : S1x256x1024.Idx → α) (h : Fin 256) (i : Fin 1024) :
    broadcastInDim S1x256x1024x1 ![0, 1, 2] bcast_S1x256x1024_S1x256x1024x1_0_1_2 x (ix4 0 h i 0) = x (ix3 0 h i) :=
  broadcastInDim_apply _ _ x (ix4 0 h i 0) (ix3 0 h i) (by intro a; fin_cases a <;> rfl)

theorem seenColumn (h : Fin 256) (i : Fin 1024) :
    broadcastInDim S1x256x1024x1 ![0, 1, 2, 3] bcast_S1x1x1024x1_S1x256x1024x1_0_1_2_3 (broadcastInDim S1x1x1024x1 ![2] bcast_S1024_S1x1x1024x1_2 seen) (ix4 0 h i 0) = 1#1 :=
  ((broadcastInDim_apply _ _ _ (ix4 0 h i 0) (ix4 0 0 i 0) (by intro a; fin_cases a <;> rfl)).trans
    (broadcastInDim_apply _ _ seen (ix4 0 0 i 0) (ix1 i) (by intro a; fin_cases a; rfl))).trans (seen_apply i)

theorem seenAll (h : Fin 256) (i j : Fin 1024) :
    broadcastInDim S1x256x1024x1024 ![0, 1, 2, 3] bcast_S1x1x1024x1_S1x256x1024x1024_0_1_2_3 (broadcastInDim S1x1x1024x1 ![2] bcast_S1024_S1x1x1024x1_2 seen) (ix4 0 h i j) = 1#1 :=
  ((broadcastInDim_apply _ _ _ (ix4 0 h i j) (ix4 0 0 i 0) (by intro a; fin_cases a <;> rfl)).trans
    (broadcastInDim_apply _ _ seen (ix4 0 0 i 0) (ix1 i) (by intro a; fin_cases a; rfl))).trans (seen_apply i)

theorem scores_apply (q k : FVec Ideal S1x1024x256x128 .f32) (h : Fin 256) (i j : Fin 1024) :
    scores q k (ix4 0 h i j) = score (fun i d => q (ix4 0 i h d)) (fun j d => k (ix4 0 j h d)) i j := by
  have e : scores q k (ix4 0 h i j) = Scalar.select
      (broadcastInDim S1x256x1024x1024 ![0, 1, 2, 3] bcast_S1x1x1024x1024_S1x256x1024x1024_0_1_2_3
        (broadcastInDim S1x1x1024x1024 ![2, 3] bcast_S1024x1024_S1x1x1024x1024_2_3 mask) (ix4 0 h i j))
      (Host.dotGeneral dot_S1x1024x256x128_S1x1024x256x128_S1x256x1024x1024_3_3_1_1_02_02 none q k (ix4 0 h i j) * scale) low := rfl
  rw [e, overHeads, mask_apply, dotScore]
  unfold score
  by_cases h : Near i j
  · rw [if_pos h, if_pos h, select_one]
  · rw [if_neg h, if_neg h, select_zero]

theorem weights_apply (s : FVec Ideal S1x256x1024x1024 .f32) (h : Fin 256) (i j : Fin 1024) :
    weights s (ix4 0 h i j) = weight (fun l => s (ix4 0 h i l)) j := by
  have e : weights s (ix4 0 h i j) = Ideal.exp (s (ix4 0 h i j) - broadcastInDim S1x256x1024x1024 ![0, 1, 2, 3] bcast_S1x256x1024x1_S1x256x1024x1024_0_1_2_3
    (broadcastInDim S1x256x1024x1 ![0, 1, 2] bcast_S1x256x1024_S1x256x1024x1_0_1_2
      (Host.reduce FloatOps.maximumf s (constant S_ .f32 0xFF800000#32) reducesTo_S1x256x1024x1024_S1x256x1024_d3 h_S_)) (ix4 0 h i j)) := rfl
  rw [e, overKeys, asColumn, maxKeys]; rfl

theorem sums_apply (w : FVec Ideal S1x256x1024x1024 .f32) (h : Fin 256) (i : Fin 1024) :
    sums w (ix4 0 h i 0) = ∑ l : Fin 1024, w (ix4 0 h i l) := by
  unfold sums
  rw [select_apply, seenColumn, select_one, asColumn, sumKeys]

theorem quotient_apply (a b : FVec Ideal S1x256x1024x1024 .f32) (i : S1x256x1024x1024.Idx) : Host.divf a b i = Ideal.div (a i) (b i) := rfl

theorem softs_apply (w : FVec Ideal S1x256x1024x1024 .f32) (h : Fin 256) (i j : Fin 1024) :
    softs w (ix4 0 h i j) = Ideal.div (w (ix4 0 h i j)) (∑ l : Fin 1024, w (ix4 0 h i l)) := by
  unfold softs
  rw [select_apply, seenAll, select_one]
  rw [quotient_apply, overKeys, sums_apply]

theorem sides_apply (v : FVec Ideal S1x1024x256x128 .f32) (w : FVec Ideal S1x256x1024x1024 .f32) (i : Fin 1024) (n : Fin 32768) :
    sides v w (ix3 0 i n) = ∑ j : Fin 1024, w (ix4 0 (wh n) i j) * v (ix4 0 j (wh n) (wd n)) := by
  unfold sides
  rw [shapeCast_apply _ shapeCasts_S1x1024x256x128_S1x1024x32768 (ix3 0 i n) (ix4 0 i (wh n) (wd n))
      ((Shape.rowMajor_val_four _).trans (Eq.trans (by
        show ((0 * 1024 + i.val) * 256 + n.val / 128) * 128 + n.val % 128 = (0 * 1024 + i.val) * 32768 + n.val; omega) (Shape.rowMajor_val_three _).symm)),
    transpose_apply [0, 3, 1, 2] _ transposes_S1x256x128x1024_S1x1024x256x128_0_3_1_2 (ix4 0 i (wh n) (wd n)) (ix4 0 (wh n) (wd n) i)
      (by intro b; fin_cases b <;> rfl), dotValue]
  exact Finset.sum_congr rfl fun j _ => mul_comm _ _

/-- **The reference's result**: over all columns of all heads, the head's attention times the output weights. -/
theorem whole_apply (x : FVec Ideal S1x1024x1024 .f32) (wq : FVec Ideal S1024x32768 .f32) (k v : FVec Ideal S1x1024x256x128 .f32) (wo : FVec Ideal S32768x1024 .f32)
    (i o : Fin 1024) :
    whole x wq k v wo (ix3 0 i o) = ∑ n : Fin 32768, attn (fun i d => ∑ e : Fin 1024, x (ix3 0 i e) * wq (ix2 e (wc (wh n) d)))
      (fun j d => k (ix4 0 j (wh n) d)) (fun j d => v (ix4 0 j (wh n) d)) i (wd n) * wo (ix2 n o) := by
  unfold whole
  rw [dotOutput]
  refine Finset.sum_congr rfl fun n _ => congrArg (· * wo (ix2 n o)) ?_
  rw [sides_apply]
  unfold attn
  refine Finset.sum_congr rfl fun j _ => congrArg (· * v (ix4 0 j (wh n) (wd n))) ?_
  have es : (fun l => scores (queries x wq) k (ix4 0 (wh n) i l))
      = score (fun i d => ∑ e : Fin 1024, x (ix3 0 i e) * wq (ix2 e (wc (wh n) d))) (fun j d => k (ix4 0 j (wh n) d)) i := by
    funext l
    rw [scores_apply]
    congr 1
    funext i d
    exact queries_apply x wq i (wh n) d
  rw [softs_apply, weights_apply, es]
  unfold soft
  exact congrArg (Ideal.div _) (Finset.sum_congr rfl fun l _ => by rw [weights_apply, es])

set_option maxHeartbeats 4000000 in
/-- The reference's run leaves the stages' result. -/
theorem res_eq (m : (ℓ : Loc nD τ sig) → Buf (Elt Ideal) ℓ) (c : Dev nD) :
    Value.res_main_v39 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v39
  rfl

end Cert.AllReduce.Reference

end
-- ==== Proof.Value.lean ====
/-
  The kernel's result is the reference's: the columns of all heads are the devices' columns one device after another.
-/
module

public import proofs.«01_k».proof.Proof.Out
public import proofs.«01_k».proof.Proof.RefStages
public import Idealize.ShloMosaic.Lib.Layout

@[expose] public section

set_option maxRecDepth 16384

noncomputable section

namespace Cert.AllReduce

open Cert.KernelIdeal Cert.KernelIdeal.Gen
open Idealize.ShloMosaic hiding ix1 ix2 ix3 ix4
open Idealize.ShloMosaic.ValueIdx Idealize.ShloMosaic.TcCoe

/-- The columns of all heads, and the rows of the output weights: device `c`'s `n`-th is number `1024 c + n`. -/
abbrev wn (c : Fin 32) (n : Fin 1024) : Fin 32768 := ⟨1024 * c.val + n.val, by omega⟩

/-- A sum over all of them is a sum over the devices of each device's. -/
theorem sum_devices (f : Fin 32768 → EReal) : ∑ n : Fin 32768, f n = ∑ c : Fin 32, ∑ n : Fin 1024, f (wn c n) := by
  rw [← Fintype.sum_prod_type' (fun (c : Fin 32) (n : Fin 1024) => f (wn c n))]
  refine (Fintype.sum_equiv (finProdFinEquiv (m := 32) (n := 1024)) (fun p => f (wn p.1 p.2)) f fun p => congrArg f (Fin.ext ?_)).symm
  show 1024 * p.1.val + p.2.val = p.2.val + 1024 * p.1.val
  omega

theorem wq_block (c : Fin 32) (w : (⟨2, ![1024, 32768]⟩ : Shape).Idx → EReal) (h : Layout.Tiles ⟨2, ![1024, 1024]⟩ ⟨2, ![1024, 32768]⟩ 1 32)
    (e : Fin 1024) (l : Fin 1024) : Layout.block ⟨2, ![1024, 1024]⟩ ⟨2, ![1024, 32768]⟩ 1 32 c w h (ix2 e l) = w (ix2 e (wn c l)) := by
  rw [Layout.block_apply]
  refine congrArg w (funext fun a => ?_)
  fin_cases a
  · exact Fin.ext rfl
  · refine Fin.ext ?_
    show c.val * 1024 + l.val = 1024 * c.val + l.val
    omega

theorem wo_block (c : Fin 32) (w : (⟨2, ![32768, 1024]⟩ : Shape).Idx → EReal) (h : Layout.Tiles ⟨2, ![1024, 1024]⟩ ⟨2, ![32768, 1024]⟩ 0 32)
    (l : Fin 1024) (o : Fin 1024) : Layout.block ⟨2, ![1024, 1024]⟩ ⟨2, ![32768, 1024]⟩ 0 32 c w h (ix2 l o) = w (ix2 (wn c l) o) := by
  rw [Layout.block_apply]
  refine congrArg w (funext fun a => ?_)
  fin_cases a
  · refine Fin.ext ?_
    show c.val * 1024 + l.val = 1024 * c.val + l.val
    omega
  · exact Fin.ext rfl

theorem head_of (c : Fin 32) (n : Fin 1024) : Reference.wh (wn c n) = gh c (hd n) :=
  Fin.ext (by show (1024 * c.val + n.val) / 128 = 8 * c.val + n.val / 128; omega)

theorem place_of (c : Fin 32) (n : Fin 1024) : Reference.wd (wn c n) = hc n :=
  Fin.ext (by show (1024 * c.val + n.val) % 128 = n.val % 128; omega)

theorem column_of (c : Fin 32) (h : Fin 8) (d : Fin 128) : wn c (qc h d) = Reference.wc (gh c h) d :=
  Fin.ext (by show 1024 * c.val + (128 * h.val + d.val) = 128 * (8 * c.val + h.val) + d.val; omega)

/-- What the devices add, of their parts of the reference's arguments, makes the reference's result. -/
theorem sum_addend (x : S1x1024x1024.Idx → EReal) (wq : (⟨2, ![1024, 32768]⟩ : Shape).Idx → EReal) (k v : S1x1024x256x128.Idx → EReal)
    (wo : (⟨2, ![32768, 1024]⟩ : Shape).Idx → EReal) (hq : Layout.Tiles ⟨2, ![1024, 1024]⟩ ⟨2, ![1024, 32768]⟩ 1 32)
    (ho : Layout.Tiles ⟨2, ![1024, 1024]⟩ ⟨2, ![32768, 1024]⟩ 0 32) (i o : Fin 1024) :
    ∑ c : Fin 32, addend c x (Layout.block ⟨2, ![1024, 1024]⟩ ⟨2, ![1024, 32768]⟩ 1 32 c wq hq) k v
        (Layout.block ⟨2, ![1024, 1024]⟩ ⟨2, ![32768, 1024]⟩ 0 32 c wo ho) i o
      = Reference.whole x wq k v wo (ix3 0 i o) := by
  rw [Reference.whole_apply, sum_devices]
  refine Finset.sum_congr rfl fun c _ => ?_
  unfold addend
  refine Finset.sum_congr rfl fun n _ => ?_
  rw [wo_block, head_of, place_of]
  simp only [wq_block, column_of]

/-- **The kernel's result is the reference's**, on every device. -/
theorem result_whole (m : (ℓ : Loc nD τ sig) → Buf (Elt Ideal) ℓ) (x : S1x1024x1024.Idx → EReal) (wq : (⟨2, ![1024, 32768]⟩ : Shape).Idx → EReal)
    (k v : S1x1024x256x128.Idx → EReal) (wo : (⟨2, ![32768, 1024]⟩ : Shape).Idx → EReal)
    (hq : Layout.Tiles ⟨2, ![1024, 1024]⟩ ⟨2, ![1024, 32768]⟩ 1 32) (ho : Layout.Tiles ⟨2, ![1024, 1024]⟩ ⟨2, ![32768, 1024]⟩ 0 32)
    (h : ∀ c : Dev nD, m ((c : Thread nD τ).loc main_arg0) = x
      ∧ m ((c : Thread nD τ).loc main_arg1) = Layout.block ⟨2, ![1024, 1024]⟩ ⟨2, ![1024, 32768]⟩ 1 32 c wq hq
      ∧ m ((c : Thread nD τ).loc main_arg2) = k ∧ m ((c : Thread nD τ).loc main_arg3) = v
      ∧ m ((c : Thread nD τ).loc main_arg4) = Layout.block ⟨2, ![1024, 1024]⟩ ⟨2, ![32768, 1024]⟩ 0 32 c wo ho) (c : Dev nD) :
    (VC m c main_v22 : S1x1024x1024.Idx → EReal) = Reference.whole x wq k v wo := by
  funext j
  obtain ⟨a, i, o, rfl⟩ : ∃ (a : Fin 1) (i o : Fin 1024), j = ix3 a i o := ⟨_, _, _, ValueIdx.eq_ix3 j⟩
  obtain rfl : a = 0 := Subsingleton.elim _ _
  rw [← sum_addend x wq k v wo hq ho i o]
  refine (result_sum m c i o).trans ?_
  refine Finset.sum_congr (M := EReal) rfl fun d _ => ?_
  obtain ⟨h0, h1, h2, h3, h4⟩ := h d
  rw [h0, h1, h2, h3, h4]

end Cert.AllReduce

end
-- ==== Proof.lean ====
/-
  The claims of the certificate, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RunMain
public import proofs.«01_k».proof.Proof.Same
public import proofs.«01_k».proof.Proof.Value

@[expose] public section

noncomputable section

namespace Cert.Proof

open Idealize.ShloMosaic Idealize.SL.Sem

/-- The kernel at the hardware's floats runs, changes no argument, and leaves every counter at zero. -/
theorem frame_kernel : Cert.quiescent_Kernel := fun m ρ _ => by
  rw [Cert.AllReduce.defsEq]
  exact (θ_run Cert.KernelIdeal.defs _ _).mono (fun _ h => ⟨fun c => (h.1 c).2, h.2⟩) (Cert.AllReduce.run_main (F := Bits) m ρ)
/-- The kernel at the extended reals likewise. -/
theorem frame_kernelIdeal : Cert.quiescent_KernelIdeal := fun m ρ _ =>
  (θ_run Cert.KernelIdeal.defs _ _).mono (fun _ h => ⟨fun c => (h.1 c).2, h.2⟩) (Cert.AllReduce.run_main (F := Ideal) m ρ)

/-- The reference likewise: it declares no semaphore, so there is no counter to leave above zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel, on every device, and the reference leave the same array: the reference's result of the
    whole arguments. -/
theorem algebraic : Cert.algebraic_KernelIdeal_ReferenceIdeal := fun m ρ m' ρ' _ hargs =>
  ⟨Cert.AllReduce.Reference.whole _ _ _ _ _,
    (θ_run Cert.KernelIdeal.defs _ _).mono
      (fun _ h c => ⟨(h.1 c).1.trans (Cert.AllReduce.result_whole m _ _ _ _ _ _ _ hargs c), (h.1 c).2⟩)
      (Cert.AllReduce.run_main (F := Ideal) m ρ),
    (θ_run Cert.ReferenceIdeal.defs _ _).mono
      (fun _ h => ⟨(h 0).1.trans (Cert.AllReduce.Reference.res_eq m' 0), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
